-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_scales [hPre_normal_scales : Cert.Pre_normal_scales.Facts] (m : (ℓ : Loc Cert.KernelIdeal.nD Cert.KernelIdeal.τ Cert.KernelIdeal.sig) → Buf (Elt Ideal) ℓ) : Prop :=
  ∀ c : Dev Cert.KernelIdeal.nD,
    (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_scales [hPre_normal_scales : Cert.Pre_normal_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_normal_scales [hKernelIdeal : Cert.KernelIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_normal_scales [hReferenceIdeal : Cert.ReferenceIdeal.Facts] [hPre_normal_scales : Cert.Pre_normal_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_normal_scales [hKernelIdeal : Cert.KernelIdeal.Facts] [hReferenceIdeal : Cert.ReferenceIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_normal_scales : Cert.Pre_normal_scales.Facts),
    quiescent_Kernel (hKernel := hKernel)
    ∧ quiescent_KernelIdeal (hKernelIdeal := hKernelIdeal)
    ∧ quiescent_KernelIdeal_pre_normal_scales (hKernelIdeal := hKernelIdeal) (hPre_normal_scales := hPre_normal_scales)
    ∧ quiescent_ReferenceIdeal (hReferenceIdeal := hReferenceIdeal)
    ∧ quiescent_ReferenceIdeal_pre_normal_scales (hReferenceIdeal := hReferenceIdeal) (hPre_normal_scales := hPre_normal_scales)
    ∧ preserves_Kernel_KernelIdeal
    ∧ algebraic_KernelIdeal_ReferenceIdeal_pre_normal_scales (hKernelIdeal := hKernelIdeal) (hReferenceIdeal := hReferenceIdeal) (hPre_normal_scales := hPre_normal_scales)
-- ==== Pre_normal_scales.lean ====
abbrev S1x256x3584 : Shape := ⟨3, ![1, 256, 3584]⟩
abbrev S3x896x18944 : Shape := ⟨3, ![3, 896, 18944]⟩
abbrev S112x18944 : Shape := ⟨2, ![112, 18944]⟩
abbrev S256x112x32 : Shape := ⟨3, ![256, 112, 32]⟩
abbrev S_ : Shape := ⟨0, ![]⟩
abbrev S256x112 : Shape := ⟨2, ![256, 112]⟩

class Facts : Prop where
  bitsLt_bf16_f32 : FTy.bits .bf16 < FTy.bits .f32
  shapeCasts_S1x256x3584_S256x112x32 : S1x256x3584.ShapeCasts S256x112x32
  reducesTo_S256x112x32_S256x112_d2 : S256x112x32.ReducesTo [2] S256x112
  h_S_ : 0 < S_.numel
  natLt_8_32 : 8 < 32
  bcast_S_S256x112 : S_.BroadcastsInDim S256x112 (![] : Fin 0 → Fin S256x112.rank)
  bcast_S_S112x18944 : S_.BroadcastsInDim S112x18944 (![] : Fin 0 → Fin S112x18944.rank)

variable [Facts]

def fn {F : FTy → Type} [FloatOps F] (main_arg0 : FVec F S1x256x3584 .bf16) (main_arg1 : IVec S3x896x18944 8) (main_arg2 : IVec S112x18944 8) : IVec S256x112 1 × IVec S112x18944 1 :=
  let main_v0 : FVec F S1x256x3584 .f32 := (extf .f32 · bitsLt_bf16_f32) main_arg0
  let main_v1 : FVec F S256x112x32 .f32 := shapeCast S256x112x32 main_v0 shapeCasts_S1x256x3584_S256x112x32
  let main_v2 : FVec F S256x112x32 .f32 := Host.absf main_v1
  let main_cst : FVec F S_ .f32 := constant S_ .f32 0xFF800000#32
  let main_v3 : FVec F S256x112 .f32 := (fun x v => Host.reduce FloatOps.maximumf x v reducesTo_S256x112x32_S256x112_d2 h_S_) main_v2 main_cst
  let main_v4 : IVec S112x18944 32 := (extui 32 · natLt_8_32) main_arg2
  let main_cst_0 : FVec F S_ .f32 := constant S_ .f32 0x00000000#32
  let main_v5 : FVec F S256x112 .f32 := broadcastInDim S256x112 ![] bcast_S_S256x112 main_cst_0
  let main_v6 : IVec S256x112 1 := cmpf .oeq main_v3 main_v5
  let main_cst_1 : FVec F S_ .f32 := constant S_ .f32 0x01800000#32
  let main_v7 : FVec F S256x112 .f32 := broadcastInDim S256x112 ![] bcast_S_S256x112 main_cst_1
  let main_v8 : IVec S256x112 1 := cmpf .oge main_v3 main_v7
  let main_v9 : IVec S256x112 1 := ori main_v6 main_v8
  let main_cst_2 : FVec F S_ .f32 := constant S_ .f32 0x7F800000#32
  let main_v10 : FVec F S256x112 .f32 := broadcastInDim S256x112 ![] bcast_S_S256x112 main_cst_2
  let main_v11 : IVec S256x112 1 := cmpf .olt main_v3 main_v10
  let main_v12 : IVec S256x112 1 := andi main_v9 main_v11
  let main_c : IVec S_ 32 := constantI S_ 32 1#32
  let main_v13 : IVec S112x18944 32 := broadcastInDim S112x18944 ![] bcast_S_S112x18944 main_c
  let main_v14 : IVec S112x18944 1 := cmpi .sge main_v4 main_v13
  let main_c_3 : IVec S_ 32 := constantI S_ 32 254#32
  let main_v15 : IVec S112x18944 32 := broadcastInDim S112x18944 ![] bcast_S_S112x18944 main_c_3
  let main_v16 : IVec S112x18944 1 := cmpi .sle main_v4 main_v15
  let main_v17 : IVec S112x18944 1 := andi main_v14 main_v16
  (main_v12, main_v17)
-- ==== Kernel.lean ====
abbrev S1x256x3584 : Shape := ⟨3, ![1, 256, 3584]⟩
abbrev S3x896x18944 : Shape := ⟨3, ![3, 896, 18944]⟩
abbrev S112x18944 : Shape := ⟨2, ![112, 18944]⟩
abbrev S256x3584 : Shape := ⟨2, ![256, 3584]⟩
abbrev S256x18944 : Shape := ⟨2, ![256, 18944]⟩
abbrev S256x112 : Shape := ⟨2, ![256, 112]⟩
abbrev S3x896x512 : Shape := ⟨3, ![3, 896, 512]⟩
abbrev S112x512 : Shape := ⟨2, ![112, 512]⟩
abbrev S256x512 : Shape := ⟨2, ![256, 512]⟩
abbrev S256x256 : Shape := ⟨2, ![256, 256]⟩
abbrev S128x128 : Shape := ⟨2, ![128, 128]⟩
abbrev S256x128 : Shape := ⟨2, ![256, 128]⟩
abbrev S1x64x512 : Shape := ⟨3, ![1, 64, 512]⟩
abbrev S64x512 : Shape := ⟨2, ![64, 512]⟩
abbrev S16x512 : Shape := ⟨2, ![16, 512]⟩
abbrev S8x512 : Shape := ⟨2, ![8, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S1x256x3584, .bf16⟩
  | .hbm, ⟨1, _⟩ => ⟨S3x896x18944, .i8⟩
  | .hbm, ⟨2, _⟩ => ⟨S112x18944, .i8⟩
  | .hbm, ⟨3, _⟩ => ⟨S256x3584, .bf16⟩
  | .hbm, ⟨4, _⟩ => ⟨S256x18944, .bf16⟩
  | .hbm, ⟨5, _⟩ => ⟨S256x3584, .fp8e4m3⟩
  | .hbm, ⟨6, _⟩ => ⟨S256x112, .i8⟩
  | .local _ .vmem, ⟨0, _⟩ => ⟨S256x3584, .bf16⟩
  | .local _ .vmem, ⟨1, _⟩ => ⟨S3x896x512, .i8⟩
  | .local _ .vmem, ⟨2, _⟩ => ⟨S3x896x512, .i8⟩
  | .local _ .vmem, ⟨3, _⟩ => ⟨S112x512, .i8⟩
  | .local _ .vmem, ⟨4, _⟩ => ⟨S112x512, .i8⟩
  | .local _ .vmem, ⟨5, _⟩ => ⟨S256x512, .bf16⟩
  | .local _ .vmem, ⟨6, _⟩ => ⟨S256x512, .bf16⟩
  | .local _ .vmem, ⟨7, _⟩ => ⟨S256x3584, .fp8e4m3⟩
  | .local _ .vmem, ⟨8, _⟩ => ⟨S256x112, .i8⟩
  | .local _ .vmem, ⟨9, _⟩ => ⟨S256x3584, .bf16⟩
  | .local _ .vmem, ⟨10, _⟩ => ⟨S112x512, .i32⟩
  | _, _ => ⟨S1x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x896x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x112 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x256x3584 : Shape := ⟨3, ![1, 256, 3584]⟩
abbrev S3x896x18944 : Shape := ⟨3, ![3, 896, 18944]⟩
abbrev S112x18944 : Shape := ⟨2, ![112, 18944]⟩
abbrev S256x18944 : Shape := ⟨2, ![256, 18944]⟩
abbrev S256x3584 : Shape := ⟨2, ![256, 3584]⟩
abbrev S256x112 : Shape := ⟨2, ![256, 112]⟩
abbrev S256x112x32 : Shape := ⟨3, ![256, 112, 32]⟩
abbrev S256x112x254 : Shape := ⟨3, ![256, 112, 254]⟩
abbrev S256x112x1 : Shape := ⟨3, ![256, 112, 1]⟩
abbrev S256x896x4 : Shape := ⟨3, ![256, 896, 4]⟩
abbrev S1x896x18944 : Shape := ⟨3, ![1, 896, 18944]⟩
abbrev S896x18944 : Shape := ⟨2, ![896, 18944]⟩
abbrev S112x1x18944 : Shape := ⟨3, ![112, 1, 18944]⟩
abbrev S112x8x18944 : Shape := ⟨3, ![112, 8, 18944]⟩
abbrev S256x896x1 : Shape := ⟨3, ![256, 896, 1]⟩
abbrev S256x896 : Shape := ⟨2, ![256, 896]⟩

abbrev nBuf : Space → Nat
  | .hbm => 6
  | .vmem => 6
  | .smem => 0
  | _ => 0

abbrev bufTy : (tb : Table) → Fin (tcTables nBuf tb) → BufTy
  | .hbm, ⟨0, _⟩ => ⟨S1x256x3584, .bf16⟩
  | .hbm, ⟨1, _⟩ => ⟨S3x896x18944, .i8⟩
  | .hbm, ⟨2, _⟩ => ⟨S112x18944, .i8⟩
  | .hbm, ⟨3, _⟩ => ⟨S256x18944, .bf16⟩
  | .hbm, ⟨4, _⟩ => ⟨S256x3584, .fp8e4m3⟩
  | .hbm, ⟨5, _⟩ => ⟨S256x112, .i8⟩
  | .local _ .vmem, ⟨0, _⟩ => ⟨S1x256x3584, .bf16⟩
  | .local _ .vmem, ⟨1, _⟩ => ⟨S3x896x18944, .i8⟩
  | .local _ .vmem, ⟨2, _⟩ => ⟨S112x18944, .i8⟩
  | .local _ .vmem, ⟨3, _⟩ => ⟨S256x18944, .bf16⟩
  | .local _ .vmem, ⟨4, _⟩ => ⟨S256x3584, .fp8e4m3⟩
  | .local _ .vmem, ⟨5, _⟩ => ⟨S256x112, .i8⟩
  | _, _ => ⟨S1x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x896x18944 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x18944 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x18944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x112 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.Runs.lean ====
/- The body of the idealized kernel: the condition under which it prepares `x`, and the memrefs it is called with. -/
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Gen.KernelIdeal.Launch
public import Idealize.ShloMosaic.Lib.Claim

@[expose] public section

set_option maxRecDepth 16384

noncomputable section

namespace Cert.KernelIdeal.Body

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val % 37 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The memrefs the body is called with -/

/-- One staging buffer of each output window and the two scratch operands, as views: contents are stated through them. -/
abbrev VO0_3 : View sig .tc .vmem S256x512 .bf16 := (Memref.whole cc0_stg3_0 : Memref sig .tc .vmem S256x512 .bf16).view
abbrev VO0_4 : View sig .tc .vmem S256x3584 .fp8e4m3 := (Memref.whole cc0_stg4_0 : Memref sig .tc .vmem S256x3584 .fp8e4m3).view
abbrev VO0_5 : View sig .tc .vmem S256x112 .i8 := (Memref.whole cc0_stg5_0 : Memref sig .tc .vmem S256x112 .i8).view

/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x896x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x112 .i8 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x3584 .bf16 := Memref.whole cc0_scratch0
abbrev scM0_1 : Memref sig .tc .vmem S112x512 .i32 := Memref.whole cc0_scratch1
abbrev VS0_0 : View sig .tc .vmem S256x3584 .bf16 := scM0_0.view
abbrev VS0_1 : View sig .tc .vmem S112x512 .i32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.Body.RunA.lean ====
/- The body of the idealized kernel run at the first grid point. -/
module

public import proofs.«01_k».proof.Proof.Body.Runs

@[expose] public section

set_option maxRecDepth 16384

noncomputable section

namespace Cert.KernelIdeal.Body

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the first point, where it prepares `x`: the pieces its stores leave
    in each memref it writes (last first), with the proof that on whole memrefs at these contents the body runs to a
    continuation given the inputs as they were and each written memref with its pieces written. -/
noncomputable def kernelRun0_A (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    Σ' (L3 : List (View.Piece (Elt F) S256x512 .bf16)) (L4 : List (View.Piece (Elt F) S256x3584 .fp8e4m3)) (L5 : List (View.Piece (Elt F) S256x112 .i8)) (LS0 : List (View.Piece (Elt F) S256x3584 .bf16)), { LS1 : List (View.Piece (Elt F) S112x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_mxfp6_linear i arg1 harg1 arg2 harg2 arg3 harg3 arg4 harg4 arg5 harg5 arg6 harg6 arg7 harg7 arg8 harg8) K } := by
  refine ⟨?_, ?_, ?_, ?_, ?_, fun E K => ?run⟩
  case run =>
    simp only [cc0_mxfp6_linear_eq_skeleton]; unfold cc0_mxfp6_linear_skel
    simp only [k0_part159_eq_skeleton, k0_part122_eq_skeleton, k0_part120_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part121_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Body

end
-- ==== Proof.Body.Tile.lean ====
/- One 256-row tile of the weights, decoded, and the block of `y` the body accumulates from the 14 tiles: the body's own
   operations, named, over the values it loads. -/
module

public import proofs.«01_k».proof.Proof.Gen.KernelIdeal

@[expose] public section

noncomputable section

namespace Cert.KernelIdeal.Body

open Cert.KernelIdeal.Gen Idealize.ShloMosaic Idealize.ShloMosaic.TcCoe

variable {F : FTy → Type} [FloatOps F]

/-- The scale words `(u << 7) | (u << 23)`: two bf16 powers of two per word. -/
def scaleWords (u : Vec F S112x512 .i8) : IVec S112x512 32 :=
  shapeCast S112x512 (ori (shli (extui 32 u natLt_8_32) (broadcast S112x512 7#32))
    (shli (extui 32 u natLt_8_32) (broadcast S112x512 23#32))) shapeCasts_S112x512_S112x512

/-- The scales of two neighbouring 8-row blocks, each repeated over its rows. -/
def pairScale (lo hi : Vec F S1x512 .i32) : FVec F S16x512 .bf16 :=
  bitcastToFloat .bf16 (bitcast S16x512 16 (select (cmpi .slt (iota .tc S8x512 32 [0] iota_S8x512_d0_w32) (broadcast S8x512 4#32))
    (broadcastTo S8x512 (shapeCast S1x512 lo shapeCasts_S1x512_S1x512) broadcasts_S1x512_S8x512)
    (broadcastTo S8x512 (shapeCast S1x512 hi shapeCasts_S1x512_S1x512) broadcasts_S1x512_S8x512)) bitcasts_S8x512_w32_S16x512_w16)

/-- The scales of tile `kt`, from the scale rows. -/
def tileScale (sw : Fin 112 → Vec F S1x512 .i32) (kt : Fin 14) : FVec F S64x512 .bf16 :=
  concatenate S64x512 0 [⟨S16x512, pairScale (sw ⟨8 * kt.val, by omega⟩) (sw ⟨8 * kt.val + 1, by omega⟩)⟩,
    ⟨S16x512, pairScale (sw ⟨8 * kt.val + 2, by omega⟩) (sw ⟨8 * kt.val + 3, by omega⟩)⟩,
    ⟨S16x512, pairScale (sw ⟨8 * kt.val + 4, by omega⟩) (sw ⟨8 * kt.val + 5, by omega⟩)⟩,
    ⟨S16x512, pairScale (sw ⟨8 * kt.val + 6, by omega⟩) (sw ⟨8 * kt.val + 7, by omega⟩)⟩] concatenates_S16x512_S16x512_S16x512_S16x512_S64x512_d0

/-- A plane of packed bytes as words of four rows. -/
def words (p : Vec F S1x64x512 .i8) : IVec S16x512 32 :=
  bitcast S16x512 32 (shapeCast S64x512 p shapeCasts_S1x64x512_S64x512) bitcasts_S64x512_w8_S16x512_w32

/-- The four codes a byte triple packs, each as the byte `s eeee mmm`, four rows to a word. -/
def field0 (b0 : IVec S16x512 32) : IVec S16x512 32 :=
  ori (andi b0 (broadcast S16x512 522133279#32)) (andi (shli b0 (broadcast S16x512 2#32)) (broadcast S16x512 2155905152#32))
/-- The second 6-bit field, spread into the bits of a wider float format. -/
def field1 (b0 b1 : IVec S16x512 32) : IVec S16x512 32 :=
  ori (ori (andi (shrui b0 (broadcast S16x512 6#32)) (broadcast S16x512 50529027#32))
    (andi (shli b1 (broadcast S16x512 2#32)) (broadcast S16x512 471604252#32)))
    (andi (shli b1 (broadcast S16x512 4#32)) (broadcast S16x512 2155905152#32))
/-- The third. -/
def field2 (b1 b2 : IVec S16x512 32) : IVec S16x512 32 :=
  ori (ori (andi (shrui b1 (broadcast S16x512 4#32)) (broadcast S16x512 252645135#32))
    (andi (shli b2 (broadcast S16x512 4#32)) (broadcast S16x512 269488144#32)))
    (andi (shli b2 (broadcast S16x512 6#32)) (broadcast S16x512 2155905152#32))
/-- The fourth. -/
def field3 (b2 : IVec S16x512 32) : IVec S16x512 32 :=
  ori (andi (shrui b2 (broadcast S16x512 2#32)) (broadcast S16x512 522133279#32)) (andi b2 (broadcast S16x512 2155905152#32))

/-- Codes read as fp8 and scaled. -/
def decoded (f : IVec S16x512 32) (s : FVec F S64x512 .bf16) : FVec F S64x512 .bf16 :=
  mulf (extf .bf16 (bitcastToFloat .fp8e4m3 (bitcast S64x512 8 f bitcasts_S16x512_w32_S64x512_w8)) bitsLt_fp8e4m3_bf16) s

/-- A decoded tile: the four fields' rows one after another. -/
def tileW (b0 b1 b2 : IVec S16x512 32) (s : FVec F S64x512 .bf16) : FVec F S256x512 .bf16 :=
  concatenate S256x512 0 [⟨S64x512, decoded (field0 b0) s⟩, ⟨S64x512, decoded (field1 b0 b1) s⟩,
    ⟨S64x512, decoded (field2 b1 b2) s⟩, ⟨S64x512, decoded (field3 b2) s⟩] concatenates_S64x512_S64x512_S64x512_S64x512_S256x512_d0

/-- The sum over the first `n` tiles. -/
def accY (xs : Fin 14 → Vec F S256x256 .bf16) (p : Fin 3 → Fin 14 → Vec F S1x64x512 .i8) (sw : Fin 112 → Vec F S1x512 .i32) :
    (n : ℕ) → n ≤ 14 → FVec F S256x512 .f32
  | 0, _ => broadcast S256x512 (Scalar.ofBits .f32 0x00000000#32)
  | n + 1, h => addf (accY xs p sw n (Nat.le_of_succ_le h))
      (matmul dot_S256x256_S256x512_S256x512_1_0_0_1_n_n none (xs ⟨n, h⟩)
        (tileW (words (p 0 ⟨n, h⟩)) (words (p 1 ⟨n, h⟩)) (words (p 2 ⟨n, h⟩)) (tileScale sw ⟨n, h⟩)) (constant S256x512 .f32 0x00000000#32))

/-- The block of `y`. -/
def blockY (xs : Fin 14 → Vec F S256x256 .bf16) (p : Fin 3 → Fin 14 → Vec F S1x64x512 .i8) (sw : Fin 112 → Vec F S1x512 .i32) :
    FVec F S256x512 .bf16 :=
  truncf .bf16 (mulf (accY xs p sw 14 le_rfl) (broadcast S256x512 (Scalar.ofBits .f32 0x42800000#32))) bitsLt_bf16_f32

theorem inb_x (kt : Fin 14) : ∀ a, (![0, 256 * kt.val] : Fin 2 → ℕ) a + S256x256.size a ≤ S256x3584.size a := by
  intro a; match a with
  | ⟨0, _⟩ => show 0 + 256 ≤ 256; omega
  | ⟨1, _⟩ => show 256 * kt.val + 256 ≤ 3584; omega
theorem inb_w (b : Fin 3) (kt : Fin 14) : ∀ a, (![b.val, 64 * kt.val, 0] : Fin 3 → ℕ) a + S1x64x512.size a ≤ S3x896x512.size a := by
  intro a; match a with
  | ⟨0, _⟩ => show b.val + 1 ≤ 3; omega
  | ⟨1, _⟩ => show 64 * kt.val + 64 ≤ 896; omega
  | ⟨2, _⟩ => show 0 + 512 ≤ 512; omega
theorem inb_s (r : Fin 112) : ∀ a, (![r.val, 0] : Fin 2 → ℕ) a + S1x512.size a ≤ S112x512.size a := by
  intro a; match a with
  | ⟨0, _⟩ => show r.val + 1 ≤ 112; omega
  | ⟨1, _⟩ => show 0 + 512 ≤ 512; omega

end Cert.KernelIdeal.Body

end
-- ==== Proof.Body.Chunk.lean ====
/- The preparation of `x` at the first grid point, by 128-lane chunks: the body's own operations, named, over the chunks it
   loads. -/
module

public import proofs.«01_k».proof.Proof.Body.Tile
public import proofs.«01_k».proof.Proof.Gen.KernelIdeal.Skeleton

@[expose] public section

noncomputable section

namespace Cert.KernelIdeal.Body

open Cert.KernelIdeal.Gen Idealize.ShloMosaic Idealize.ShloMosaic.TcCoe

variable {F : FTy → Type} [FloatOps F]

/-- A chunk of `x` at f32. -/
def chunkF (x : Vec F S256x128 .bf16) : FVec F S256x128 .f32 := extf .f32 (shapeCast S256x128 x shapeCasts_S256x128_S256x128) bitsLt_bf16_f32

/-- One step of the maximum over 32 lanes: each lane with the lane `s` away, in its group of `2 s`; `up = 128 - s`. -/
def gstep (s up : BitVec 32) (m : FVec F S256x128 .f32) : FVec F S256x128 .f32 :=
  maximumf m (select (cmpi .eq (andi (iota .tc S256x128 32 [1] iota_S256x128_d1_w32) (broadcast S256x128 s)) (broadcast S256x128 0#32))
    (dynamicRotate 1 up none m rotates_S256x128_d1) (dynamicRotate 1 s none m rotates_S256x128_d1))

/-- The maximum over 32 lanes, in every lane. -/
def groupMax (m : FVec F S256x128 .f32) : FVec F S256x128 .f32 :=
  gstep 1#32 127#32 (gstep 2#32 126#32 (gstep 4#32 124#32 (gstep 8#32 120#32 (gstep 16#32 112#32 m))))

/-- One step of the search for the exponent: `b` is added where the power of two it leads to is not above `a`. -/
def estep (b : BitVec 32) (a : FVec F S256x128 .f32) (e : IVec S256x128 32) : IVec S256x128 32 :=
  select (cmpf .olt a (bitcastToFloat .f32 (shli (addi e (broadcast S256x128 b)) (broadcast S256x128 23#32)))) e (addi e (broadcast S256x128 b))

/-- The biased exponent. -/
def expo (a : FVec F S256x128 .f32) : IVec S256x128 32 :=
  estep 1#32 a (estep 2#32 a (estep 4#32 a (estep 8#32 a (estep 16#32 a (estep 32#32 a (estep 64#32 a (estep 128#32 a (broadcast S256x128 0#32))))))))

/-- The inverse of the block scale, the scale's byte and the scale, from the biased exponent. -/
def invOf (e : IVec S256x128 32) : FVec F S256x128 .f32 :=
  bitcastToFloat .f32 (shli (select (cmpi .eq e (broadcast S256x128 0#32)) (broadcast S256x128 127#32) (subi (broadcast S256x128 256#32) e)) (broadcast S256x128 23#32))
/-- The scale byte of an exponent. -/
def byteOf (e : IVec S256x128 32) : IVec S256x128 32 :=
  select (cmpi .eq e (broadcast S256x128 0#32)) (broadcast S256x128 127#32) (subi e (broadcast S256x128 2#32))
/-- The scale of an exponent, as a float. -/
def facOf (e : IVec S256x128 32) : FVec F S256x128 .f32 :=
  bitcastToFloat .f32 (shli (byteOf e) (broadcast S256x128 23#32))

/-- The quantised value of `v`: to multiples of `q`, clipped. -/
def codeOf (v : FVec F S256x128 .f32) : FVec F S256x128 .f32 :=
  minimumf (broadcast S256x128 (Scalar.ofBits .f32 0x40F00000#32)) (maximumf (broadcast S256x128 (Scalar.ofBits .f32 0xC0F00000#32))
    (mulf (roundeven (mulf v
        (select (cmpf .olt (absf v) (broadcast S256x128 (Scalar.ofBits .f32 0x40000000#32))) (broadcast S256x128 (Scalar.ofBits .f32 0x41000000#32))
          (select (cmpf .olt (absf v) (broadcast S256x128 (Scalar.ofBits .f32 0x40800000#32))) (broadcast S256x128 (Scalar.ofBits .f32 0x40800000#32))
            (broadcast S256x128 (Scalar.ofBits .f32 0x40000000#32))))))
      (select (cmpf .olt (absf v) (broadcast S256x128 (Scalar.ofBits .f32 0x40000000#32))) (broadcast S256x128 (Scalar.ofBits .f32 0x3E000000#32))
        (select (cmpf .olt (absf v) (broadcast S256x128 (Scalar.ofBits .f32 0x40800000#32))) (broadcast S256x128 (Scalar.ofBits .f32 0x3E800000#32))
          (broadcast S256x128 (Scalar.ofBits .f32 0x3F000000#32))))))

/-- The exponents of a chunk's block maxima. -/
def chunkE (x : Vec F S256x128 .bf16) : IVec S256x128 32 := expo (groupMax (absf (chunkF x)))
/-- The codes of a chunk. -/
def chunkCode (x : Vec F S256x128 .bf16) : FVec F S256x128 .f32 := codeOf (mulf (chunkF x) (invOf (chunkE x)))
/-- A chunk of codes; a chunk of `x` dequantised. -/
def chunk8 (x : Vec F S256x128 .bf16) : FVec F S256x128 .fp8e4m3 := truncf .fp8e4m3 (chunkCode x) bitsLt_fp8e4m3_f32
/-- The dequantised values of a chunk. -/
def chunkD (x : Vec F S256x128 .bf16) : FVec F S256x128 .bf16 := truncf .bf16 (mulf (chunkCode x) (facOf (chunkE x))) bitsLt_bf16_f32

/-- The matrix that takes lane 0 of each block of chunk `q` to the block's column, from `4 q`. -/
def pick (off : BitVec 32) : FVec F S128x128 .bf16 :=
  truncf .bf16 (sitofp .f32 (extui 32 (cmpi .eq (iota .tc S128x128 32 [0] iota_S128x128_d0_w32)
    (muli (subi (iota .tc S128x128 32 [1] iota_S128x128_d1_w32) (broadcast S128x128 off)) (broadcast S128x128 32#32))) natLt_1_32)) bitsLt_bf16_f32

/-- The scales' bytes gathered from the first `n` chunks. -/
def accS (xs : Fin 28 → Vec F S256x128 .bf16) : (n : ℕ) → n ≤ 28 → FVec F S256x128 .f32
  | 0, _ => broadcast S256x128 (Scalar.ofBits .f32 0x00000000#32)
  | n + 1, h => addf (accS xs n (Nat.le_of_succ_le h))
      (matmul dot_S256x128_S128x128_S256x128_1_0_0_1_n_n none (truncf .bf16 (sitofp .f32 (byteOf (chunkE (xs ⟨n, h⟩)))) bitsLt_bf16_f32)
        (pick (BitVec.ofNat 32 (4 * n))) (constant S256x128 .f32 0x00000000#32))

/-- The scales. -/
def scalesBlk (xs : Fin 28 → Vec F S256x128 .bf16) : IVec S256x112 8 :=
  trunci 8 (fptosi 32 (extractStridedSlice S256x112 ![0, 0] (accS xs 28 le_rfl) slices_S256x128_o0_0_S256x112)) natLt_8_32

/-- A tile of prepared `x`: two dequantised chunks, columns permuted. -/
def xpTile (x0 x1 : Vec F S256x128 .bf16) : FVec F S256x256 .bf16 :=
  shapeCast S256x256 (truncf .bf16 (matmul dot_S256x256_S256x256_S256x256_1_0_0_1_n_n none
    (concatenate S256x256 1 [⟨S256x128, chunkD x0⟩, ⟨S256x128, chunkD x1⟩] concatenates_S256x128_S256x128_S256x256_d1)
    (k0_pay3 k0_pay2) (constant S256x256 .f32 0x00000000#32)) bitsLt_bf16_f32) shapeCasts_S256x256_S256x256

/-- A chunk lies inside x. -/
theorem inb_c (q : Fin 28) : ∀ a, (![0, 128 * q.val] : Fin 2 → ℕ) a + S256x128.size a ≤ S256x3584.size a := by
  intro a; match a with
  | ⟨0, _⟩ => show 0 + 256 ≤ 256; omega
  | ⟨1, _⟩ => show 128 * q.val + 128 ≤ 3584; omega

/-- The pieces of the codes and of prepared `x`, last first. -/
def codePieces (xs : Fin 28 → Vec F S256x128 .bf16) : (n : ℕ) → n ≤ 28 → List (View.Piece (Elt F) S256x3584 .fp8e4m3)
  | 0, _ => []
  | n + 1, h => ⟨Rect.unit (s := S256x3584) ![0, 128 * n] S256x128.size (inb_c ⟨n, h⟩), chunk8 (xs ⟨n, h⟩)⟩ :: codePieces xs n (Nat.le_of_succ_le h)
/-- The stores of the permuted operand, one for each tile. -/
def xpPieces (xs : Fin 28 → Vec F S256x128 .bf16) : (n : ℕ) → n ≤ 14 → List (View.Piece (Elt F) S256x3584 .bf16)
  | 0, _ => []
  | n + 1, h => ⟨Rect.unit (s := S256x3584) ![0, 256 * n] S256x256.size (inb_x ⟨n, h⟩), xpTile (xs ⟨2 * n, by omega⟩) (xs ⟨2 * n + 1, by omega⟩)⟩
      :: xpPieces xs n (Nat.le_of_succ_le h)

end Cert.KernelIdeal.Body

end
-- ==== Proof.Body.RunB.lean ====
/- The body of the idealized kernel run at a later grid point. -/
module

public import proofs.«01_k».proof.Proof.Body.RunA

@[expose] public section

set_option maxRecDepth 16384

noncomputable section

namespace Cert.KernelIdeal.Body

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a point after the first: the codes, the scales and the prepared `x` are handed through: the pieces its stores leave
    in each memref it writes (last first), with the proof that on whole memrefs at these contents the body runs to a
    continuation given the inputs as they were and each written memref with its pieces written. -/
noncomputable def kernelRun0_B (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (x4 : Vec F S256x3584 .fp8e4m3) (x5 : Vec F S256x112 .i8) (xs0 : Vec F S256x3584 .bf16) :
    Σ' (L3 : List (View.Piece (Elt F) S256x512 .bf16)), { LS1 : List (View.Piece (Elt F) S112x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare x4 ∗ owns (c : Thread nD τ) arg6 fullShare x5 ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0_mxfp6_linear i arg1 harg1 arg2 harg2 arg3 harg3 arg4 harg4 arg5 harg5 arg6 harg6 arg7 harg7 arg8 harg8) K } := by
  refine ⟨?_, ?_, fun E K => ?run⟩
  case run =>
    simp only [cc0_mxfp6_linear_eq_skeleton]; unfold cc0_mxfp6_linear_skel
    simp only [k0_part159_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%ds1, %fs1, -, HS1⟩, Hk⟩
    obtain rfl := harg1.eq_unread hf0; obtain rfl := harg2.eq_unread hf1; obtain rfl := harg3.eq_unread hf2
    obtain rfl := harg5.eq_unread hf4; obtain rfl := harg6.eq_unread hf5; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    iexists _; iexact HS1

end Cert.KernelIdeal.Body

end
-- ==== Proof.Body.PiecesB.lean ====
/- What the body leaves at a later grid point: the block of `y`, from the prepared `x` and the point's weights. -/
module

public import proofs.«01_k».proof.Proof.Body.RunB
public import proofs.«01_k».proof.Proof.Body.Tile

@[expose] public section

set_option maxRecDepth 16384

noncomputable section

namespace Cert.KernelIdeal.Body

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tiles of prepared `x` the body loads, the planes of packed weights and the rows of scale words. -/
abbrev ldX (arg7 : Memref sig .tc .vmem S256x3584 .bf16) (f : BufTy.Contents (Elt F) arg7.view.ty) (kt : Fin 14) : Vec F S256x256 .bf16 :=
  View.readAt (Elt F) arg7.view (Rect.unit (s := S256x3584) ![0, 256 * kt.val] S256x256.size (inb_x kt)).toLoadRect f
abbrev ldW (arg2 : Memref sig .tc .vmem S3x896x512 .i8) (f : BufTy.Contents (Elt F) arg2.view.ty) (b : Fin 3) (kt : Fin 14) : Vec F S1x64x512 .i8 :=
  View.readAt (Elt F) arg2.view (Rect.unit (s := S3x896x512) ![b.val, 64 * kt.val, 0] S1x64x512.size (inb_w b kt)).toLoadRect f
abbrev scalePieces (arg3 : Memref sig .tc .vmem S112x512 .i8) (f : BufTy.Contents (Elt F) arg3.view.ty) : List (View.Piece (Elt F) S112x512 .i32) :=
  [⟨Rect.unit (s := S112x512) ![0, 0] S112x512.size inb_S112x512_S112x512_0_0,
    scaleWords (View.readAt (Elt F) arg3.view (Rect.unit (s := S112x512) ![0, 0] S112x512.size inb_S112x512_S112x512_0_0).toLoadRect f)⟩]
abbrev ldS (arg8 : Memref sig .tc .vmem S112x512 .i32) (L : List (View.Piece (Elt F) S112x512 .i32)) (r : Fin 112) : Vec F S1x512 .i32 :=
  arg8.view.readCov L (Rect.unit (s := S112x512) ![r.val, 0] S1x512.size (inb_s r)).toLoadRect

set_option maxHeartbeats 4000000 in
/-- The one piece of `y`. -/
theorem piecesB (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (x4 : Vec F S256x3584 .fp8e4m3) (x5 : Vec F S256x112 .i8) (xs0 : Vec F S256x3584 .bf16) :
    (kernelRun0_B c i arg1 harg1 arg2 harg2 arg3 harg3 arg4 harg4 arg5 harg5 arg6 harg6 arg7 harg7 arg8 harg8 hc0 x0 x1 x2 x4 x5 xs0).1
      = [⟨Rect.unit (s := S256x512) ![0, 0] S256x512.size inb_S256x512_S256x512_0_0,
          blockY (ldX arg7 (harg7.unread xs0)) (ldW arg2 (harg2.unread x1)) (ldS arg8 (scalePieces arg3 (harg3.unread x2)))⟩] := by
  sl_kernel_rfl
end Cert.KernelIdeal.Body

end
-- ==== Proof.Body.PiecesA.lean ====
/- What the body leaves at the first grid point: codes, scales, prepared `x` and the block of `y`. -/
module

public import proofs.«01_k».proof.Proof.Body.RunA
public import proofs.«01_k».proof.Proof.Body.Chunk
public import proofs.«01_k».proof.Proof.Body.PiecesB

@[expose] public section

set_option maxRecDepth 16384

noncomputable section

namespace Cert.KernelIdeal.Body

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The chunks of `x` the body loads; the tiles of prepared `x` it loads back. -/
abbrev ldC (arg1 : Memref sig .tc .vmem S256x3584 .bf16) (f : BufTy.Contents (Elt F) arg1.view.ty) (q : Fin 28) : Vec F S256x128 .bf16 :=
  View.readAt (Elt F) arg1.view (Rect.unit (s := S256x3584) ![0, 128 * q.val] S256x128.size (inb_c q)).toLoadRect f
abbrev ldP (arg7 : Memref sig .tc .vmem S256x3584 .bf16) (L : List (View.Piece (Elt F) S256x3584 .bf16)) (kt : Fin 14) : Vec F S256x256 .bf16 :=
  arg7.view.readCov L (Rect.unit (s := S256x3584) ![0, 256 * kt.val] S256x256.size (inb_x kt)).toLoadRect

set_option maxHeartbeats 4000000 in
/-- The pieces of the codes. -/
theorem piecesA_codes (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    (kernelRun0_A c i arg1 harg1 arg2 harg2 arg3 harg3 arg4 harg4 arg5 harg5 arg6 harg6 arg7 harg7 arg8 harg8 hc0 x0 x1 x2).2.1
      = codePieces (ldC arg1 (harg1.unread x0)) 28 le_rfl := by
  sl_kernel_rfl

set_option maxHeartbeats 4000000 in
/-- The one piece of the scales. -/
theorem piecesA_scales (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    (kernelRun0_A c i arg1 harg1 arg2 harg2 arg3 harg3 arg4 harg4 arg5 harg5 arg6 harg6 arg7 harg7 arg8 harg8 hc0 x0 x1 x2).2.2.1
      = [⟨Rect.unit (s := S256x112) ![0, 0] S256x112.size inb_S256x112_S256x112_0_0, scalesBlk (ldC arg1 (harg1.unread x0))⟩] := by
  sl_kernel_rfl

set_option maxHeartbeats 4000000 in
/-- The pieces of prepared `x`. -/
theorem piecesA_xp (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    (kernelRun0_A c i arg1 harg1 arg2 harg2 arg3 harg3 arg4 harg4 arg5 harg5 arg6 harg6 arg7 harg7 arg8 harg8 hc0 x0 x1 x2).2.2.2.1
      = xpPieces (ldC arg1 (harg1.unread x0)) 14 le_rfl := by
  sl_kernel_rfl

set_option maxHeartbeats 4000000 in
/-- The one piece of `y`. -/
theorem piecesA_y (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    (kernelRun0_A c i arg1 harg1 arg2 harg2 arg3 harg3 arg4 harg4 arg5 harg5 arg6 harg6 arg7 harg7 arg8 harg8 hc0 x0 x1 x2).1
      = [⟨Rect.unit (s := S256x512) ![0, 0] S256x512.size inb_S256x512_S256x512_0_0,
          blockY (ldP arg7 (xpPieces (ldC arg1 (harg1.unread x0)) 14 le_rfl)) (ldW arg2 (harg2.unread x1)) (ldS arg8 (scalePieces arg3 (harg3.unread x2)))⟩] := by
  sl_kernel_rfl

end Cert.KernelIdeal.Body

end
-- ==== Proof.Body.Values.lean ====
/- What the body leaves in each buffer, as functions of the blocks it is given. -/
module

public import proofs.«01_k».proof.Proof.Body.PiecesA
public import Idealize.ShloMosaic.Lib.Pipeline.Value
public import proofs.«01_k».proof.Proof.Body.Chunk
public import proofs.«01_k».proof.Proof.Body.PiecesB

@[expose] public section

set_option maxRecDepth 16384

noncomputable section

namespace Cert.KernelIdeal.Body

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The 128-lane chunks of the block of `x`. -/
def xc (x0 : Vec F S256x3584 .bf16) (q : Fin 28) : Vec F S256x128 .bf16 :=
  View.ld (Val := Elt F) (e' := .bf16) x0 (Rect.unit (s := S256x3584) ![0, 128 * q.val] S256x128.size (inb_c q))
/-- The codes, the scales, prepared `x`. -/
def codesV (x0 : Vec F S256x3584 .bf16) : Vec F S256x3584 .fp8e4m3 := View.canon (codePieces (xc x0) 28 le_rfl)
/-- The scale bytes stored, as a function of the block of x. -/
def scalesV (x0 : Vec F S256x3584 .bf16) : Vec F S256x112 .i8 := scalesBlk (xc x0)
/-- The permuted dequantised operand, as a function of the block of x. -/
def xpV (x0 : Vec F S256x3584 .bf16) : Vec F S256x3584 .bf16 := View.canon (xpPieces (xc x0) 14 le_rfl)
/-- The tiles of prepared `x`, the planes of the weights' tiles, the rows of scale words; the block of `y` from them. -/
def xpT (xp : Vec F S256x3584 .bf16) (kt : Fin 14) : Vec F S256x256 .bf16 :=
  View.ld (Val := Elt F) (e' := .bf16) xp (Rect.unit (s := S256x3584) ![0, 256 * kt.val] S256x256.size (inb_x kt))
/-- Byte plane b of weight tile kt. -/
def wT (x1 : Vec F S3x896x512 .i8) (b : Fin 3) (kt : Fin 14) : Vec F S1x64x512 .i8 :=
  View.ld (Val := Elt F) (e' := .i8) x1 (Rect.unit (s := S3x896x512) ![b.val, 64 * kt.val, 0] S1x64x512.size (inb_w b kt))
/-- Row r of the widened scale words. -/
def sT (x2 : Vec F S112x512 .i8) (r : Fin 112) : Vec F S1x512 .i32 :=
  View.ld (Val := Elt F) (e' := .i32) (scaleWords x2) (Rect.unit (s := S112x512) ![r.val, 0] S1x512.size (inb_s r))
/-- The block of the product, as a function of the operand and the weight blocks. -/
def yV (xp : Vec F S256x3584 .bf16) (x1 : Vec F S3x896x512 .i8) (x2 : Vec F S112x512 .i8) : Vec F S256x512 .bf16 :=
  blockY (xpT xp) (wT x1) (sT x2)

theorem off0 : (![0, 0] : Fin 2 → ℕ) = fun _ => 0 := by decide

theorem ldC_eq (arg1 : Memref sig .tc .vmem S256x3584 .bf16) (harg1 : arg1.IsWhole) (x0 : Vec F S256x3584 .bf16) :
    ldC arg1 (harg1.unread x0) = xc x0 := by
  funext q; unfold ldC xc; rw [View.readAt_eq_ld, harg1.read_unread]
theorem ldX_eq (arg7 : Memref sig .tc .vmem S256x3584 .bf16) (harg7 : arg7.IsWhole) (xp : Vec F S256x3584 .bf16) :
    ldX arg7 (harg7.unread xp) = xpT xp := by
  funext q; unfold ldX xpT; rw [View.readAt_eq_ld, harg7.read_unread]
theorem ldW_eq (arg2 : Memref sig .tc .vmem S3x896x512 .i8) (harg2 : arg2.IsWhole) (x1 : Vec F S3x896x512 .i8) :
    ldW arg2 (harg2.unread x1) = wT x1 := by
  funext b q; unfold ldW wT; rw [View.readAt_eq_ld, harg2.read_unread]
theorem ldP_eq (arg7 : Memref sig .tc .vmem S256x3584 .bf16) (x0 : Vec F S256x3584 .bf16) :
    ldP arg7 (xpPieces (xc x0) 14 le_rfl) = xpT (xpV x0) := by
  funext q; unfold ldP xpT xpV; rw [View.readCov_eq_canon']
theorem ldS_eq (arg8 : Memref sig .tc .vmem S112x512 .i32) (arg3 : Memref sig .tc .vmem S112x512 .i8) (harg3 : arg3.IsWhole) (x2 : Vec F S112x512 .i8) :
    ldS arg8 (scalePieces arg3 (harg3.unread x2)) = sT x2 := by
  funext q; unfold ldS sT scalePieces
  rw [View.readCov_eq_canon', View.readAt_eq_ld, harg3.read_unread, View.ld_unit_zero off0, View.canon_unit_zero off0]

/-- The first point's product block is `yV`. -/
theorem canonA_y (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    View.canon (kernelRun0_A c i arg1 harg1 arg2 harg2 arg3 harg3 arg4 harg4 arg5 harg5 arg6 harg6 arg7 harg7 arg8 harg8 hc0 x0 x1 x2).1 = yV (xpV x0) x1 x2 := by
  rw [piecesA_y, View.canon_unit_zero off0, ldC_eq, ldP_eq, ldW_eq, ldS_eq]; rfl
/-- The first point's codes are `codesV`. -/
theorem canonA_codes (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    View.canon (kernelRun0_A c i arg1 harg1 arg2 harg2 arg3 harg3 arg4 harg4 arg5 harg5 arg6 harg6 arg7 harg7 arg8 harg8 hc0 x0 x1 x2).2.1 = codesV x0 := by
  rw [piecesA_codes, ldC_eq]; rfl
/-- The first point's scale bytes are `scalesV`. -/
theorem canonA_scales (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    View.canon (kernelRun0_A c i arg1 harg1 arg2 harg2 arg3 harg3 arg4 harg4 arg5 harg5 arg6 harg6 arg7 harg7 arg8 harg8 hc0 x0 x1 x2).2.2.1 = scalesV x0 := by
  rw [piecesA_scales, View.canon_unit_zero off0, ldC_eq]; rfl
/-- The first point's scratch operand is `xpV`. -/
theorem canonA_xp (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    View.canon (kernelRun0_A c i arg1 harg1 arg2 harg2 arg3 harg3 arg4 harg4 arg5 harg5 arg6 harg6 arg7 harg7 arg8 harg8 hc0 x0 x1 x2).2.2.2.1 = xpV x0 := by
  rw [piecesA_xp, ldC_eq]; rfl
/-- A later point's product block is `yV` of the scratch operand. -/
theorem canonB_y (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (x4 : Vec F S256x3584 .fp8e4m3) (x5 : Vec F S256x112 .i8) (xs0 : Vec F S256x3584 .bf16) :
    View.canon (kernelRun0_B c i arg1 harg1 arg2 harg2 arg3 harg3 arg4 harg4 arg5 harg5 arg6 harg6 arg7 harg7 arg8 harg8 hc0 x0 x1 x2 x4 x5 xs0).1 = yV xs0 x1 x2 := by
  rw [piecesB, View.canon_unit_zero off0, ldX_eq, ldW_eq, ldS_eq]; rfl

/-- The pieces cover the buffers. -/
theorem coverA_y (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) (y : S256x512.Idx) : ∃ pc ∈ (kernelRun0_A c i arg1 harg1 arg2 harg2 arg3 harg3 arg4 harg4 arg5 harg5 arg6 harg6 arg7 harg7 arg8 harg8 hc0 x0 x1 x2).1, y ∈ pc.1.set :=
  View.cover_of_tiledL (kernelRun0_A c i arg1 harg1 arg2 harg2 arg3 harg3 arg4 harg4 arg5 harg5 arg6 harg6 arg7 harg7 arg8 harg8 hc0 x0 x1 x2).1 S256x512.size (by sl_kernel_rfl) y
theorem coverA_codes (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) (y : S256x3584.Idx) : ∃ pc ∈ (kernelRun0_A c i arg1 harg1 arg2 harg2 arg3 harg3 arg4 harg4 arg5 harg5 arg6 harg6 arg7 harg7 arg8 harg8 hc0 x0 x1 x2).2.1, y ∈ pc.1.set :=
  View.cover_of_tiledL (kernelRun0_A c i arg1 harg1 arg2 harg2 arg3 harg3 arg4 harg4 arg5 harg5 arg6 harg6 arg7 harg7 arg8 harg8 hc0 x0 x1 x2).2.1 S256x128.size (by sl_kernel_rfl) y
theorem coverA_scales (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) (y : S256x112.Idx) : ∃ pc ∈ (kernelRun0_A c i arg1 harg1 arg2 harg2 arg3 harg3 arg4 harg4 arg5 harg5 arg6 harg6 arg7 harg7 arg8 harg8 hc0 x0 x1 x2).2.2.1, y ∈ pc.1.set :=
  View.cover_of_tiledL (kernelRun0_A c i arg1 harg1 arg2 harg2 arg3 harg3 arg4 harg4 arg5 harg5 arg6 harg6 arg7 harg7 arg8 harg8 hc0 x0 x1 x2).2.2.1 S256x112.size (by sl_kernel_rfl) y
theorem coverA_xp (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) (y : S256x3584.Idx) : ∃ pc ∈ (kernelRun0_A c i arg1 harg1 arg2 harg2 arg3 harg3 arg4 harg4 arg5 harg5 arg6 harg6 arg7 harg7 arg8 harg8 hc0 x0 x1 x2).2.2.2.1, y ∈ pc.1.set :=
  View.cover_of_tiledL (kernelRun0_A c i arg1 harg1 arg2 harg2 arg3 harg3 arg4 harg4 arg5 harg5 arg6 harg6 arg7 harg7 arg8 harg8 hc0 x0 x1 x2).2.2.2.1 S256x256.size (by sl_kernel_rfl) y
theorem coverB_y (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (x4 : Vec F S256x3584 .fp8e4m3) (x5 : Vec F S256x112 .i8) (xs0 : Vec F S256x3584 .bf16) (y : S256x512.Idx) : ∃ pc ∈ (kernelRun0_B c i arg1 harg1 arg2 harg2 arg3 harg3 arg4 harg4 arg5 harg5 arg6 harg6 arg7 harg7 arg8 harg8 hc0 x0 x1 x2 x4 x5 xs0).1, y ∈ pc.1.set :=
  View.cover_of_tiledL (kernelRun0_B c i arg1 harg1 arg2 harg2 arg3 harg3 arg4 harg4 arg5 harg5 arg6 harg6 arg7 harg7 arg8 harg8 hc0 x0 x1 x2 x4 x5 xs0).1 S256x512.size (by sl_kernel_rfl) y

end Cert.KernelIdeal.Body

end
-- ==== Proof.Body.Frame.lean ====
/- The run of the idealized kernel over its grid: what each staging buffer holds after each point, the body obligation, the run. -/
module

public import proofs.«01_k».proof.Proof.Body.Values
public import Idealize.ShloMosaic.Lib.Pipeline.TableIdle
public import Idealize.ShloMosaic.Lib.Pipeline.Value

@[expose] public section

set_option maxRecDepth 16384

noncomputable section

namespace Cert.KernelIdeal.Body

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
abbrev pt0 : Fin cfg0.N := ⟨0, by have h : cfg0.N = 37 := N_0; omega⟩

/-- Prepared `x` on core `c`, the codes, the scales: what the first point leaves and the others keep. -/
def xpC (c : Dev nD) : Vec F S256x3584 .bf16 := xpV (iblk m c 0 pt0)
/-- The codes, which the first point computes from x. -/
def codesC (c : Dev nD) : Vec F S256x3584 .fp8e4m3 := codesV (iblk m c 0 pt0)
/-- The scale bytes, which the first point computes from x. -/
def scalesC (c : Dev nD) : Vec F S256x112 .i8 := scalesV (iblk m c 0 pt0)
/-- The block of `y` at point `t`. -/
def yC (c : Dev nD) (t : Fin cfg0.N) : Vec F S256x512 .bf16 := yV (xpC m c) (iblk m c 1 t) (iblk m c 2 t)

/-- The invariant: before the first point every scratch at anything; afterwards prepared `x` in the first scratch. -/
def PhiS (c : Dev nD) : (n : ℕ) → sProp 𝕄
  | 0 => Pipeline.ΦA spec0 c
  | _ + 1 => iprop(iprop(owns (c : Thread nD τ) scM0_0 fullShare (xpC m c) ∗ (∃ d, owns (c : Thread nD τ) scM0_1 fullShare d)) ∗ (∃ r, prngReg c r))

theorem PhiS_pos (c : Dev nD) (n : ℕ) (hz : n ≠ 0) :
    PhiS m c n = iprop(iprop(owns (c : Thread nD τ) scM0_0 fullShare (xpC m c) ∗ (∃ d, owns (c : Thread nD τ) scM0_1 fullShare d)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yC m c t
    | ⟨4, _⟩ => codesC m c
    | ⟨5, _⟩ => scalesC m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yC m c t := by dsimp only [dats]
theorem after0_4 (c : Dev nD) (t : Fin cfg0.N) : (dats m 0 c).after 4 t = codesC m c := by dsimp only [dats]
theorem after0_5 (c : Dev nD) (t : Fin cfg0.N) : (dats m 0 c).after 5 t = scalesC m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The codes' and the scales' windows: stored at the first point only, written back at the last only. -/
theorem idle0_4 (t : Fin cfg0.N) (h : cfg0.idle 4 (cfg0.grid.coords t) = true) : t.val ≠ 0 := fun hz => by
  have hc : k0_cond1 (grid0.coords t) = 1#1 := (hcond0_0 t).mpr (by omega)
  have h' : (!(k0_cond1 (grid0.coords t) == 1#1)) = true := h
  rw [hc] at h'; exact absurd h' (by decide)
theorem idle0_5 (t : Fin cfg0.N) (h : cfg0.idle 5 (cfg0.grid.coords t) = true) : t.val ≠ 0 := idle0_4 t h
theorem fresh0_4 : ∀ n : ℕ, n < 36 → cfg0.fresh 4 (n + 1) = false := fun n => by
  induction n with
  | zero => intro _; rw [Pipeline.Cfg.fresh_succ _ _ 0 (by have h : cfg0.N = 37 := N_0; omega), Bool.or_eq_false_iff]
            exact ⟨Bool.eq_false_iff.mpr fun h => by have := (flush0_4 _).mp h; dsimp only at this; omega,
              by rw [Bool.and_eq_false_iff]; exact .inl (Bool.eq_false_iff.mpr fun h => idle0_4 _ h rfl)⟩
  | succ n ih => intro hn; rw [Pipeline.Cfg.fresh_succ _ _ (n + 1) (by have h : cfg0.N = 37 := N_0; omega), ih (by omega), Bool.and_false, Bool.or_false]
                 exact Bool.eq_false_iff.mpr fun h => by have := (flush0_4 _).mp h; dsimp only at this; omega
theorem fresh0_5 : ∀ n : ℕ, n < 36 → cfg0.fresh 5 (n + 1) = false := fun n => by
  induction n with
  | zero => intro _; rw [Pipeline.Cfg.fresh_succ _ _ 0 (by have h : cfg0.N = 37 := N_0; omega), Bool.or_eq_false_iff]
            exact ⟨Bool.eq_false_iff.mpr fun h => by have := (flush0_5 _).mp h; dsimp only at this; omega,
              by rw [Bool.and_eq_false_iff]; exact .inl (Bool.eq_false_iff.mpr fun h => idle0_5 _ h rfl)⟩
  | succ n ih => intro hn; rw [Pipeline.Cfg.fresh_succ _ _ (n + 1) (by have h : cfg0.N = 37 := N_0; omega), ih (by omega), Bool.and_false, Bool.or_false]
                 exact Bool.eq_false_iff.mpr fun h => by have := (flush0_5 _).mp h; dsimp only at this; omega

/-- After the first point their buffers hold what it left. -/
theorem before0_4 (c : Dev nD) (t : Fin cfg0.N) (ht : t.val ≠ 0) (d) : (dats m 0 c).before 4 t d = codesC m c := by
  have hN : t.val < 37 := lt_of_lt_of_eq t.isLt (show cfg0.N = 37 from N_0)
  have hf : cfg0.fresh 4 t.val = false := by
    have := fresh0_4 (t.val - 1) (by omega); rwa [Nat.sub_add_cancel (Nat.pos_of_ne_zero ht)] at this
  rw [(dats m 0 c).before_out_traj 4 rfl (fun _ _ => rfl) (fun t _ _ _ => by rw [after0_4, after0_4]) t.val t rfl d, hf, after0_4]
  rfl
theorem before0_5 (c : Dev nD) (t : Fin cfg0.N) (ht : t.val ≠ 0) (d) : (dats m 0 c).before 5 t d = scalesC m c := by
  have hN : t.val < 37 := lt_of_lt_of_eq t.isLt (show cfg0.N = 37 from N_0)
  have hf : cfg0.fresh 5 t.val = false := by
    have := fresh0_5 (t.val - 1) (by omega); rwa [Nat.sub_add_cancel (Nat.pos_of_ne_zero ht)] at this
  rw [(dats m 0 c).before_out_traj 5 rfl (fun _ _ => rfl) (fun t _ _ _ => by rw [after0_5, after0_5]) t.val t rfl d, hf, after0_5]
  rfl

/-! ## The body obligation -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body leaves at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, after0_4, after0_5]
  rw [show (dats m 0 c).Φ t.succ = PhiS m c (t.val + 1) from rfl, PhiS_pos m c _ (Nat.succ_ne_zero _), PhiS_castSucc m c t]
  have hN : t.val < 37 := lt_of_lt_of_eq t.isLt (show cfg0.N = 37 from N_0)
  by_cases hz : t.val = 0
  · have h0 : t.val % 37 = 0 := by omega
    obtain rfl : t = pt0 := Fin.ext hz
    rw [show PhiS m c (pt0 : Fin cfg0.N).val = Pipeline.ΦA spec0 c from rfl, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords pt0) _ _ _ _ _ _ _ _ _ _ _ _ _ _ _ _ ((hcond0_0 pt0).mpr h0) (iblk m c 0 pt0) (iblk m c 1 pt0) (iblk m c 2 pt0)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hg]
    · isplitl [HS0 HS1]
      · isplitl [HS0]
        · unfold owns; iexists _; isplitr
          swap; · iexact HS0
          ipureintro; exact (View.read_writes_eq_canon _ _ _ (coverA_xp c _ _ _ _ _ _ _ _ _ _ _ _ _ _ _ _ _ _ _ _ _)).trans (canonA_xp c _ _ _ _ _ _ _ _ _ _ _ _ _ _ _ _ _ _ _ _ _)
        unfold owns; iexists _; iexists _; isplitr
        swap; · iexact HS1
        ipureintro; rfl
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact (View.read_writes_eq_canon _ _ _ (coverA_y c _ _ _ _ _ _ _ _ _ _ _ _ _ _ _ _ _ _ _ _ _)).trans (canonA_y c _ _ _ _ _ _ _ _ _ _ _ _ _ _ _ _ _ _ _ _ _)
    isplitl [H4]
    · unfold owns; iexists _; isplitr
      swap; · iexact H4
      ipureintro; exact (View.read_writes_eq_canon _ _ _ (coverA_codes c _ _ _ _ _ _ _ _ _ _ _ _ _ _ _ _ _ _ _ _ _)).trans (canonA_codes c _ _ _ _ _ _ _ _ _ _ _ _ _ _ _ _ _ _ _ _ _)
    unfold owns; iexists _; isplitr
    swap; · iexact H5
    ipureintro; exact (View.read_writes_eq_canon _ _ _ (coverA_scales c _ _ _ _ _ _ _ _ _ _ _ _ _ _ _ _ _ _ _ _ _)).trans (canonA_scales c _ _ _ _ _ _ _ _ _ _ _ _ _ _ _ _ _ _ _ _ _)
  · have h0 : ¬t.val % 37 = 0 := by omega
    rw [PhiS_pos m c _ hz]
    simp only [before0_4 m c t hz, before0_5 m c t hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t) (codesC m c) (scalesC m c) (xpC m c)).2.2 Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, HS0, ⟨%es1, HS1⟩⟩
    isplitl [HS0 HS1 Hg]
    · isplitl [HS0 HS1]
      · isplitl [HS0]
        · iexact HS0
        unfold owns; iexists _; iexists _; isplitr
        swap; · iexact HS1
        ipureintro; rfl
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact (View.read_writes_eq_canon _ _ _ (coverB_y c _ _ _ _ _ _ _ _ _ _ _ _ _ _ _ _ _ _ _ _ _ _ _ _)).trans (canonB_y c _ _ _ _ _ _ _ _ _ _ _ _ _ _ _ _ _ _ _ _ _ _ _ _)
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the obligation asks of a window at a point it may be idle at, from the window's contents as `after` says. -/
theorem leaves_of {P : Type} (Q : sProp 𝕄) (R : P → sProp 𝕄) (a b : Bool) (h : a = true → b = false → ∃ d, R d = Q) :
    Q ⊢ (match (generalizing := false) a with | true => (match (generalizing := false) b with | false => iprop(∃ d, R d) | true => Q) | false => Q) := by
  cases a
  · exact Idealize.SL.BI.Entails.refl _
  · cases b
    · obtain ⟨d, hd⟩ := h rfl rfl
      subst hd
      iintro H; iexists _; iexact H
    · exact Idealize.SL.BI.Entails.refl _

/-- The body, at every point, takes the invariant and its windows to the next. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  have e (X : sProp 𝕄) : X ⊢ X := Idealize.SL.BI.Entails.refl X
  refine BI.sep_mono (e _) (BI.sep_mono (e _) (BI.sep_mono (e _) (BI.sep_mono (e _) (BI.sep_mono (e _) (BI.sep_mono (e _) (BI.sep_mono ?_ ?_))))))
  · exact leaves_of (P := _) (owns (c : Thread nD τ) (ms0_4 t) fullShare ((dats m 0 c).after 4 t))
      (fun d => owns (c : Thread nD τ) (ms0_4 t) fullShare ((dats m 0 c).before 4 t d)) (cfg0.idle 4 (cfg0.grid.coords t)) ((cfg0.win 4).flush t)
      fun hi _ => ⟨codesC m c, by rw [before0_4 m c t (idle0_4 t hi), after0_4]⟩
  · exact leaves_of (P := _) (owns (c : Thread nD τ) (ms0_5 t) fullShare ((dats m 0 c).after 5 t))
      (fun d => owns (c : Thread nD τ) (ms0_5 t) fullShare ((dats m 0 c).before 5 t d)) (cfg0.idle 5 (cfg0.grid.coords t)) ((cfg0.win 5).flush t)
      fun hi _ => ⟨scalesC m c, by rw [before0_5 m c t (idle0_5 t hi), after0_5]⟩

/-- The invariant holds as the region is entered. -/
theorem hin (c : Dev nD) : Pipeline.ΦA spec0 c ⊢ (dats m 0 c).Φ 0 := by
  rw [show (dats m 0 c).Φ 0 = Pipeline.ΦA spec0 c from rfl]

/-- And gives back the scratch buffers at its end. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 37 := N_0; omega), PhiA0_eq]
  iintro ⟨⟨HS0, HS1⟩, Hg⟩
  isplitl [HS0 HS1]
  · isplitl [HS0]
    · iexists _; iexact HS0
    iexact HS1
  iexact Hg

/-! ## The run and the frame -/

set_option backward.isDefEq.respectTransparency.types false in
/-- The launch: every array of the pipeline ends at what the proof data say, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the whole program. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.KernelFrame.lean ====
/- The frame of the kernel at its machine floats: the printed program is the idealized one's text, whose run is
   proved at every float instance. -/
module

public import proofs.«01_k».proof.Proof.Body.Frame
public import proofs.«01_k».proof.Proof.Gen.Kernel

@[expose] public section

set_option maxRecDepth 16384

noncomputable section

namespace Cert.KernelFrame

open Idealize.ShloMosaic Idealize.SL.Sem

attribute [local instance] Cert.Kernel.Gen.facts

variable {F : FTy → Type} [FloatOps F]
/-- The two body tables run the same function. -/
theorem table_eq : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := Cert.Kernel.nD) (sig := Cert.Kernel.sig) (Λ := Cert.Kernel.Λ₀)) ?_
  funext l x
  match l, x with
  | 0, (t, s) => rfl
  | ⟨n + 1, h⟩, _ => exact absurd h (Nat.not_lt.2 (Nat.le_add_left _ _))
/-- And so do the tables of the whole programs. -/
theorem defs_eq : @Cert.Kernel.defs F _ Cert.Kernel.Gen.facts = @Cert.KernelIdeal.defs F _ Cert.KernelIdeal.Gen.facts :=
  congrArg (Pipeline.defs Cert.Kernel.pcfgs) table_eq

variable (m : (ℓ : Loc Cert.Kernel.nD Cert.Kernel.τ Cert.Kernel.sig) → Buf (Elt F) ℓ) (ρ : Dev Cert.Kernel.nD → PrngReg)

/-- The kernel runs, its arguments end unchanged, and every semaphore counter ends at zero. -/
theorem frame : θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) :=
  cast (congrArg (fun d => θ_run d (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)) defs_eq.symm) (Cert.KernelIdeal.Body.frame (F := F) m ρ)

end Cert.KernelFrame

end
-- ==== Proof.Body.Arrays.lean ====
/- The arrays the idealized kernel ends with, and its run with each named. -/
module

public import proofs.«01_k».proof.Proof.Body.Frame
public import Idealize.ShloMosaic.Lib.Claim
public import Idealize.ShloMosaic.Lib.ValueIdxCore
public import Idealize.ShloMosaic.Lib.Pipeline.ValueKit.Tiles

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx (ix2 ix3 eq_ix2)
open Idealize.ShloMosaic.Pipeline (Dat)

variable {F : FTy → Type} [FloatOps F]
variable (m : (ℓ : Loc nD τ sig) → Buf (Elt F) ℓ) (ρ : Dev nD → PrngReg)

/-! ## The input blocks -/

/-- Window 0 (x) sits at block 0 at every point. -/
theorem idx_facts0 : ∀ t : Fin cfg0.N, win0_0.index t (0 : Fin 2) = 0 ∧ win0_0.index t (1 : Fin 2) = 0 :=
  (by decide +kernel : ∀ t : Fin grid0.N, _)
/-- Window 1 (the packed weights) moves along the columns with the point. -/
theorem idx_facts1 : ∀ t : Fin cfg0.N, win0_1.index t (0 : Fin 3) = 0 ∧ win0_1.index t (1 : Fin 3) = 0 ∧ win0_1.index t (2 : Fin 3) = t.val :=
  (by decide +kernel : ∀ t : Fin grid0.N, _)
/-- Window 2 (the weight scales) moves along the columns with the point. -/
theorem idx_facts2 : ∀ t : Fin cfg0.N, win0_2.index t (0 : Fin 2) = 0 ∧ win0_2.index t (1 : Fin 2) = t.val :=
  (by decide +kernel : ∀ t : Fin grid0.N, _)
/-- Window 3 (the product) moves along the columns with the point. -/
theorem idx_facts3 : ∀ t : Fin cfg0.N, win0_3.index t (0 : Fin 2) = 0 ∧ win0_3.index t (1 : Fin 2) = t.val :=
  (by decide +kernel : ∀ t : Fin grid0.N, _)
/-- Window 4 (the codes) sits at block 0 at every point. -/
theorem idx_facts4 : ∀ t : Fin cfg0.N, win0_4.index t (0 : Fin 2) = 0 ∧ win0_4.index t (1 : Fin 2) = 0 :=
  (by decide +kernel : ∀ t : Fin grid0.N, _)
/-- Window 5 (the scale bytes) sits at block 0 at every point. -/
theorem idx_facts5 : ∀ t : Fin cfg0.N, win0_5.index t (0 : Fin 2) = 0 ∧ win0_5.index t (1 : Fin 2) = 0 :=
  (by decide +kernel : ∀ t : Fin grid0.N, _)

/-- Lane `n` of column tile `t`. -/
def ncol (t : Fin cfg0.N) (n : Fin 512) : Fin 18944 :=
  ⟨512 * t.val + n.val, by have := lt_of_lt_of_eq t.isLt (show cfg0.N = 37 from N_0); omega⟩

/-- `x`'s block is `x`. -/
theorem iblk0_apply (c : Dev nD) (t : Fin cfg0.N) (r : Fin 256) (k : Fin 3584) :
    (iblk m c 0 t : Vec F S256x3584 .bf16) (ix2 r k) = (m ((c : Thread nD τ).loc main_arg0) : Vec F S1x256x3584 .bf16) (ix3 (0 : Fin 1) r k) := by
  have he : ((cfg0.win 0).blk t).view.emb (ix2 r k : S256x3584.Idx) = (ix2 r k : S256x3584.Idx) := by
    obtain ⟨e0, e1⟩ := idx_facts0 t
    funext a; apply Fin.ext
    match a with
    | ⟨0, _⟩ => show win0_0.index t (0 : Fin 2) * 256 + 1 * r.val = r.val; omega
    | ⟨1, _⟩ => show win0_0.index t (1 : Fin 2) * 3584 + 1 * k.val = k.val; omega
  show (V m c main_v0 : Vec F S256x3584 .bf16) (((cfg0.win 0).blk t).view.emb (ix2 r k : S256x3584.Idx)) = _
  rw [he]
  entry_read
  refine shapeCast_apply (s := S1x256x3584) (t := S256x3584) _ _ (ix2 r k) (ix3 (0 : Fin 1) r k) ?_
  rw [Shape.rowMajor_val_three, Shape.rowMajor_val_two]
  show (0 * 256 + r.val) * 3584 + k.val = r.val * 3584 + k.val
  omega

/-- A weights' block is a column tile of the weights. -/
theorem iblk1_apply (c : Dev nD) (t : Fin cfg0.N) (b : Fin 3) (G : Fin 896) (n : Fin 512) :
    (iblk m c 1 t : Vec F S3x896x512 .i8) (ix3 b G n) = (m ((c : Thread nD τ).loc main_arg1) : Vec F S3x896x18944 .i8) (ix3 b G (ncol t n)) := by
  have he : ((cfg0.win 1).blk t).view.emb (ix3 b G n : S3x896x512.Idx) = (ix3 b G (ncol t n) : S3x896x18944.Idx) := by
    obtain ⟨e0, e1, e2⟩ := idx_facts1 t
    funext a; apply Fin.ext
    match a with
    | ⟨0, _⟩ => show win0_1.index t (0 : Fin 3) * 3 + 1 * b.val = b.val; omega
    | ⟨1, _⟩ => show win0_1.index t (1 : Fin 3) * 896 + 1 * G.val = G.val; omega
    | ⟨2, _⟩ => show win0_1.index t (2 : Fin 3) * 512 + 1 * n.val = 512 * t.val + n.val; omega
  show (V m c main_arg1 : Vec F S3x896x18944 .i8) (((cfg0.win 1).blk t).view.emb (ix3 b G n : S3x896x512.Idx)) = _
  rw [he, V_main_arg1]

/-- A scales' block is a column tile of the scales. -/
theorem iblk2_apply (c : Dev nD) (t : Fin cfg0.N) (s : Fin 112) (n : Fin 512) :
    (iblk m c 2 t : Vec F S112x512 .i8) (ix2 s n) = (m ((c : Thread nD τ).loc main_arg2) : Vec F S112x18944 .i8) (ix2 s (ncol t n)) := by
  have he : ((cfg0.win 2).blk t).view.emb (ix2 s n : S112x512.Idx) = (ix2 s (ncol t n) : S112x18944.Idx) := by
    obtain ⟨e0, e1⟩ := idx_facts2 t
    funext a; apply Fin.ext
    match a with
    | ⟨0, _⟩ => show win0_2.index t (0 : Fin 2) * 112 + 1 * s.val = s.val; omega
    | ⟨1, _⟩ => show win0_2.index t (1 : Fin 2) * 512 + 1 * n.val = 512 * t.val + n.val; omega
  show (V m c main_arg2 : Vec F S112x18944 .i8) (((cfg0.win 2).blk t).view.emb (ix2 s n : S112x512.Idx)) = _
  rw [he, V_main_arg2]

/-! ## The output arrays -/

/-- The tile of a column, and the lane in it. -/
def tileOf (N : Fin 18944) : Fin cfg0.N := ⟨N.val / 512, lt_of_lt_of_eq (by omega) (show 37 = cfg0.N from N_0.symm)⟩
/-- And its place in that tile. -/
def laneOf (N : Fin 18944) : Fin 512 := ⟨N.val % 512, by omega⟩

/-- A column is its tile and its place in it. -/
theorem ncol_tileOf (N : Fin 18944) : ncol (tileOf N) (laneOf N) = N := Fin.ext (by
  show 512 * (N.val / 512) + N.val % 512 = N.val; omega)

/-- `y`: column `N` is lane `N % 512` of the block point `N / 512` leaves. -/
def yArr (c : Dev nD) : Vec F S256x18944 .bf16 := fun i => yC m c (tileOf (i 1)) (ix2 (i 0 : Fin 256) (laneOf (i 1)))

/-- An index lies in the product's block when its column lies in the tile. -/
theorem mem_blk3 (t : Fin cfg0.N) (i : S256x18944.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v1_0).slice (win0_3.rect t)).set ↔ _
  rw [View.set_slice_whole, Rect.mem_set_unit]
  exact Iff.rfl
/-- Every index lies in the codes' block. -/
theorem mem_blk4 (t : Fin cfg0.N) (i : S256x3584.Idx) :
    i ∈ ((cfg0.win 4).blk t).view.set ↔ ∀ a : Fin 2, win0_4.index t a * S256x3584.size a ≤ (i a).val ∧ (i a).val < win0_4.index t a * S256x3584.size a + S256x3584.size a := by
  show i ∈ ((View.whole main_v1_1).slice (win0_4.rect t)).set ↔ _
  rw [View.set_slice_whole, Rect.mem_set_unit]
  exact Iff.rfl
/-- Every index lies in the scale bytes' block. -/
theorem mem_blk5 (t : Fin cfg0.N) (i : S256x112.Idx) :
    i ∈ ((cfg0.win 5).blk t).view.set ↔ ∀ a : Fin 2, win0_5.index t a * S256x112.size a ≤ (i a).val ∧ (i a).val < win0_5.index t a * S256x112.size a + S256x112.size a := by
  show i ∈ ((View.whole main_v1_2).slice (win0_5.rect t)).set ↔ _
  rw [View.set_slice_whole, Rect.mem_set_unit]
  exact Iff.rfl

/-- What a write-back of the product writes is the target array there. -/
theorem flushed3_eq (c : Dev nD) (t : Fin cfg0.N) :
    (dats m 0 c).flushed 3 t = ((cfg0.win 3).blk t).view.read (Elt F) (yArr m c) := by
  show (cfg0.win 3).cut (grid0.coords t) ((dats m 0 c).after 3 t) = _
  rw [after0_3]
  obtain ⟨e0, e1⟩ := idx_facts3 t
  have hN := lt_of_lt_of_eq t.isLt (show cfg0.N = 37 from N_0)
  funext y
  have hy0 : (y 0).val < 256 := (y 0).isLt
  have hy1 : (y 1).val < 512 := (y 1).isLt
  have hb0 : (((cfg0.win 3).blk t).view.emb y 0).val = win0_3.index t (0 : Fin 2) * 256 + 1 * (y 0).val := rfl
  have hb1 : (((cfg0.win 3).blk t).view.emb y 1).val = win0_3.index t (1 : Fin 2) * 512 + 1 * (y 1).val := rfl
  have ht : tileOf (((cfg0.win 3).blk t).view.emb y 1) = t := Fin.ext (by
    show (((cfg0.win 3).blk t).view.emb y 1).val / 512 = t.val; rw [hb1]; omega)
  have hl : (ix2 ((((cfg0.win 3).blk t).view.emb y 0 : Fin 256)) (laneOf (((cfg0.win 3).blk t).view.emb y 1)) : S256x512.Idx) = (cfg0.win 3).xinj (grid0.coords t) y := by
    funext a; apply Fin.ext
    match a with
    | ⟨0, _⟩ => show (((cfg0.win 3).blk t).view.emb y 0).val = (y 0).val; rw [hb0]; omega
    | ⟨1, _⟩ => show (((cfg0.win 3).blk t).view.emb y 1).val % 512 = (y 1).val; rw [hb1]; omega
  show yC m c t ((cfg0.win 3).xinj (grid0.coords t) y)
    = yC m c (tileOf (((cfg0.win 3).blk t).view.emb y 1)) (ix2 ((((cfg0.win 3).blk t).view.emb y 0 : Fin 256)) (laneOf (((cfg0.win 3).blk t).view.emb y 1)))
  rw [ht, hl]

/-- What the write-back of the codes writes. -/
theorem flushed4_eq (c : Dev nD) (t : Fin cfg0.N) :
    (dats m 0 c).flushed 4 t = ((cfg0.win 4).blk t).view.read (Elt F) (codesC m c) := by
  show (cfg0.win 4).cut (grid0.coords t) ((dats m 0 c).after 4 t) = _
  rw [after0_4]
  obtain ⟨e0, e1⟩ := idx_facts4 t
  funext y
  refine congrArg (codesC m c) (funext fun a => Fin.ext ?_)
  match a with
  | ⟨0, _⟩ => show (y 0).val = win0_4.index t (0 : Fin 2) * 256 + 1 * (y 0).val; omega
  | ⟨1, _⟩ => show (y 1).val = win0_4.index t (1 : Fin 2) * 3584 + 1 * (y 1).val; omega
/-- What the write-back of the scale bytes writes. -/
theorem flushed5_eq (c : Dev nD) (t : Fin cfg0.N) :
    (dats m 0 c).flushed 5 t = ((cfg0.win 5).blk t).view.read (Elt F) (scalesC m c) := by
  show (cfg0.win 5).cut (grid0.coords t) ((dats m 0 c).after 5 t) = _
  rw [after0_5]
  obtain ⟨e0, e1⟩ := idx_facts5 t
  funext y
  refine congrArg (scalesC m c) (funext fun a => Fin.ext ?_)
  match a with
  | ⟨0, _⟩ => show (y 0).val = win0_5.index t (0 : Fin 2) * 256 + 1 * (y 0).val; omega
  | ⟨1, _⟩ => show (y 1).val = win0_5.index t (1 : Fin 2) * 112 + 1 * (y 1).val; omega

/-- The last point. -/
abbrev ptL : Fin cfg0.N := ⟨36, by have h : cfg0.N = 37 := N_0; omega⟩

/-- The product array after the run. -/
theorem final3 (c : Dev nD) : (dats m 0 c).arrAt 3 cfg0.N = yArr m c :=
  (dats m 0 c).arrAt_eq_of_cover 3 _ (fun t _ => flushed3_eq m c t) (fun i => by
    refine ⟨tileOf (i 1), flush0_3 _, ?_⟩
    rw [mem_blk3]
    obtain ⟨e0, e1⟩ := idx_facts3 (tileOf (i 1))
    have h0 : (i 0).val < 256 := (i 0).isLt
    have h1 : (i 1).val < 18944 := (i 1).isLt
    have e2 : (tileOf (i 1)).val = (i 1).val / 512 := rfl
    intro a
    match a with
    | ⟨0, _⟩ => show win0_3.index (tileOf (i 1)) (0 : Fin 2) * 256 ≤ (i 0).val ∧ (i 0).val < win0_3.index (tileOf (i 1)) (0 : Fin 2) * 256 + 256; omega
    | ⟨1, _⟩ => show win0_3.index (tileOf (i 1)) (1 : Fin 2) * 512 ≤ (i 1).val ∧ (i 1).val < win0_3.index (tileOf (i 1)) (1 : Fin 2) * 512 + 512; omega)
/-- The codes after the run. -/
theorem final4 (c : Dev nD) : (dats m 0 c).arrAt 4 cfg0.N = codesC m c :=
  (dats m 0 c).arrAt_eq_of_cover 4 _ (fun t _ => flushed4_eq m c t) (fun i => by
    refine ⟨ptL, (flush0_4 ptL).mpr (by decide), ?_⟩
    rw [mem_blk4]
    obtain ⟨e0, e1⟩ := idx_facts4 ptL
    have h0 : (i 0).val < 256 := (i 0).isLt
    have h1 : (i 1).val < 3584 := (i 1).isLt
    intro a
    match a with
    | ⟨0, _⟩ => show win0_4.index ptL (0 : Fin 2) * 256 ≤ (i 0).val ∧ (i 0).val < win0_4.index ptL (0 : Fin 2) * 256 + 256; omega
    | ⟨1, _⟩ => show win0_4.index ptL (1 : Fin 2) * 3584 ≤ (i 1).val ∧ (i 1).val < win0_4.index ptL (1 : Fin 2) * 3584 + 3584; omega)
/-- The scale bytes after the run. -/
theorem final5 (c : Dev nD) : (dats m 0 c).arrAt 5 cfg0.N = scalesC m c :=
  (dats m 0 c).arrAt_eq_of_cover 5 _ (fun t _ => flushed5_eq m c t) (fun i => by
    refine ⟨ptL, (flush0_5 ptL).mpr (by decide), ?_⟩
    rw [mem_blk5]
    obtain ⟨e0, e1⟩ := idx_facts5 ptL
    have h0 : (i 0).val < 256 := (i 0).isLt
    have h1 : (i 1).val < 112 := (i 1).isLt
    intro a
    match a with
    | ⟨0, _⟩ => show win0_5.index ptL (0 : Fin 2) * 256 ≤ (i 0).val ∧ (i 0).val < win0_5.index ptL (0 : Fin 2) * 256 + 256; omega
    | ⟨1, _⟩ => show win0_5.index ptL (1 : Fin 2) * 112 ≤ (i 1).val ∧ (i 1).val < win0_5.index ptL (1 : Fin 2) * 112 + 112; omega)

/-- The run, each result array named, the arguments unchanged. -/
theorem run : θ_run defs (onTc (τ := τ) (main (F := F))) ⟨m, fun _ => 0, ρ⟩ fun r => ∀ c : Dev nD,
      r.2.mem ((c : Thread nD τ).loc main_v1_0) = yArr m c
      ∧ r.2.mem ((c : Thread nD τ).loc main_v1_1) = codesC m c
      ∧ r.2.mem ((c : Thread nD τ).loc main_v1_2) = scalesC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final3 m c), ((h.1 c).1 4).trans (final4 m c), ((h.1 c).1 5).trans (final5 m c), h.2 c⟩)
    (θ_run_and (run_main m ρ) (unchanged m ρ))

end Cert.KernelIdeal.Body

end
-- ==== Proof.Math.Exponent.lean ====
/- The exponent of a block's greatest magnitude, by the kernel's search and as the reference takes it: scalars only. -/
module

public import Idealize.ShloMosaic.Lib.ValueIdx

@[expose] public section

noncomputable section

namespace Cert.Mx

open Idealize.ShloMosaic

/-- `2 ^ k` as an extended real. -/
def p2 (k : ℤ) : EReal := (((2 : ℝ) ^ k : ℝ) : EReal)

theorem p2_pos (k : ℤ) : 0 < p2 k := by
  unfold p2; exact_mod_cast zpow_pos (by norm_num : (0 : ℝ) < 2) k
theorem p2_le {a b : ℤ} (h : a ≤ b) : p2 a ≤ p2 b := by
  unfold p2; exact_mod_cast zpow_le_zpow_right₀ (by norm_num : (1 : ℝ) ≤ 2) h
theorem p2_zero : p2 0 = 1 := by unfold p2; simp
theorem p2_lt_top (k : ℤ) : p2 k < ⊤ := by unfold p2; exact EReal.coe_lt_top _

/-- The f32 with exponent field `n` and no fraction. -/
def pw (n : ℕ) : EReal := Ideal.ofBits .f32 (BitVec.ofNat 32 n <<< 23)

private theorem fields (n : ℕ) (h : n < 256) :
    (BitVec.ofNat 32 n <<< 23).extractLsb' 31 1 = 0#1 ∧ ((BitVec.ofNat 32 n <<< 23).extractLsb' 23 8).toNat = n
      ∧ ((BitVec.ofNat 32 n <<< 23).extractLsb' 0 23).toNat = 0 := by
  have e : (BitVec.ofNat 32 n <<< 23).toNat = n * 8388608 := by
    rw [BitVec.toNat_shiftLeft, BitVec.toNat_ofNat, Nat.shiftLeft_eq]; omega
  refine ⟨?_, ?_, ?_⟩
  · apply BitVec.eq_of_toNat_eq
    rw [BitVec.extractLsb'_toNat, e, Nat.shiftRight_eq_div_pow]; simp; omega
  · rw [BitVec.extractLsb'_toNat, e, Nat.shiftRight_eq_div_pow]; omega
  · rw [BitVec.extractLsb'_toNat, e, Nat.shiftRight_eq_div_pow]; omega

/-- The words of normal numbers are powers of two. -/
theorem pw_eq (n : ℕ) (h1 : 1 ≤ n) (h2 : n ≤ 254) : pw n = p2 ((n : ℤ) - 127) := by
  obtain ⟨h, hx, hf⟩ := fields n (by omega)
  show Ideal.ieee 8 23 (BitVec.ofNat 32 n <<< 23) = _
  simp only [Ideal.ieee, Nat.reduceAdd, h, hx, hf]
  rw [if_neg (by omega), if_neg (by omega)]
  unfold p2
  refine congrArg (fun r : ℝ => (r : EReal)) ?_
  rw [show ((n : ℤ) - 127) = 23 + ((n : ℤ) - (2 ^ (8 - 1) - 1) - 23) by norm_num, zpow_add₀ (by norm_num : (2 : ℝ) ≠ 0)]
  norm_num
/-- The word with exponent 0. -/
theorem pw_zero : pw 0 = 0 := by
  obtain ⟨h, hx, hf⟩ := fields 0 (by omega)
  show Ideal.ieee 8 23 (BitVec.ofNat 32 0 <<< 23) = _
  simp only [Ideal.ieee, Nat.reduceAdd, h, hx, hf]
  simp
/-- The word with exponent 255. -/
theorem pw_255 : pw 255 = ⊤ := by
  obtain ⟨h, hx, hf⟩ := fields 255 (by omega)
  show Ideal.ieee 8 23 (BitVec.ofNat 32 255 <<< 23) = _
  simp only [Ideal.ieee, Nat.reduceAdd, h, hx, hf]
  simp

/-- One step of the search, and the search. -/
def nstep (a : EReal) (b e : ℕ) : ℕ := if a < pw (e + b) then e else e + b
/-- The search: eight steps from the top bit down. -/
def expN (a : EReal) : ℕ := nstep a 1 (nstep a 2 (nstep a 4 (nstep a 8 (nstep a 16 (nstep a 32 (nstep a 64 (nstep a 128 0)))))))

/-- The search's invariant: `e` is a multiple of what is left, the power at `e` is not above `a`, the power past what is left is. -/
def Inv (a : EReal) (b e : ℕ) : Prop := e + b ≤ 256 ∧ (e = 0 ∨ pw e ≤ a) ∧ (e + b = 256 ∨ a < pw (e + b))

/-- A step of the search halves the range. -/
theorem Inv.step {a : EReal} {b e : ℕ} (h : Inv a (2 * b) e) : Inv a b (nstep a b e) := by
  obtain ⟨h1, h2, h3⟩ := h
  unfold nstep
  split
  · rename_i hlt
    exact ⟨by omega, h2, Or.inr hlt⟩
  · rename_i hge
    refine ⟨by omega, Or.inr (not_lt.1 hge), ?_⟩
    rw [show e + b + b = e + 2 * b by omega]; exact h3

/-- What the search ends with. -/
theorem expN_inv (a : EReal) : Inv a 1 (expN a) := by
  have h : Inv a (2 * 128) 0 := ⟨by omega, Or.inl rfl, Or.inl rfl⟩
  exact Inv.step (b := 1) (Inv.step (b := 2) (Inv.step (b := 4) (Inv.step (b := 8) (Inv.step (b := 16) (Inv.step (b := 32)
    (Inv.step (b := 64) (Inv.step (b := 128) h)))))))

/-- A finite `a`: the exponent is the greatest `e ≤ 254` with `2 ^ (e - 127) ≤ a`, or 0. -/
theorem expN_le {a : EReal} (ha : a < ⊤) : expN a ≤ 254 := by
  obtain ⟨h1, h2, h3⟩ := expN_inv a
  by_contra hc
  have he : expN a = 255 := by omega
  rw [he, pw_255] at h2
  rcases h2 with h2 | h2
  · omega
  · exact absurd ha (not_lt.2 h2)
/-- The power of the exponent found is at most `a`. -/
theorem expN_low {a : EReal} (ha : a < ⊤) (h0 : expN a ≠ 0) : p2 ((expN a : ℤ) - 127) ≤ a := by
  obtain ⟨h1, h2, h3⟩ := expN_inv a
  rw [← pw_eq _ (by omega) (expN_le ha)]
  exact h2.resolve_left h0
/-- The next power is above `a`. -/
theorem expN_high {a : EReal} (ha : a < ⊤) (h0 : expN a ≤ 253) : a < p2 ((expN a : ℤ) - 126) := by
  obtain ⟨h1, h2, h3⟩ := expN_inv a
  have h := h3.resolve_left (by omega)
  rw [pw_eq _ (by omega) (by omega)] at h
  have e : (((expN a + 1 : ℕ) : ℤ) - 127) = (expN a : ℤ) - 126 := by omega
  rwa [e] at h

/-- Zero, and the magnitudes whose block scale is a normal number. -/
theorem expN_zero : expN 0 = 0 := by
  by_contra h
  have := expN_low (a := 0) (by exact EReal.coe_lt_top 0) h
  exact absurd (p2_pos _) (not_lt.2 this)
theorem expN_ge {a : EReal} (ha : a < ⊤) (h : p2 (-124) ≤ a) : 3 ≤ expN a := by
  by_contra hc
  have h2 := expN_high ha (by omega)
  have h3 : p2 ((expN a : ℤ) - 126) ≤ p2 (-124) := p2_le (by omega)
  exact absurd (h2.trans_le h3) (not_lt.2 h)

/-- What the claim assumes of a block's greatest magnitude. -/
def Normal (a : EReal) : Prop := (a = 0 ∨ p2 (-124) ≤ a) ∧ a < ⊤

theorem Normal.cases {a : EReal} (h : Normal a) : (a = 0 ∧ expN a = 0) ∨ (a ≠ 0 ∧ 3 ≤ expN a ∧ expN a ≤ 254) := by
  rcases h.1 with h0 | h0
  · left; exact ⟨h0, by rw [h0]; exact expN_zero⟩
  · right; exact ⟨(lt_of_lt_of_le (p2_pos _) h0).ne', expN_ge h.2 h0, expN_le h.2⟩

/-- The inverse of the block scale, the scale's byte and the scale. -/
def invE (a : EReal) : EReal := if a = 0 then 1 else p2 (129 - (expN a : ℤ))
/-- The scale byte of a block with maximum `a`. -/
def byteN (a : EReal) : ℕ := if a = 0 then 127 else expN a - 2
/-- The scale of a block with maximum `a`. -/
def facE (a : EReal) : EReal := p2 ((byteN a : ℤ) - 127)

theorem Normal.byte_bounds {a : EReal} (h : Normal a) : 1 ≤ byteN a ∧ byteN a ≤ 252 := by
  unfold byteN
  rcases h.cases with ⟨h0, h1⟩ | ⟨h0, h1, h2⟩
  · rw [if_pos h0]; omega
  · rw [if_neg h0]; omega

/-- The kernel's step, on words. -/
def kstep (b : BitVec 32) (a : EReal) (e : BitVec 32) : BitVec 32 :=
  Scalar.select (Ideal.cmp .olt a (Ideal.ofBits .f32 (IntOp.shli .vector (e + b) 23#32))) e (e + b)
/-- The kernel's search, in 32-bit words. -/
def kexpo (a : EReal) : BitVec 32 :=
  kstep 1#32 a (kstep 2#32 a (kstep 4#32 a (kstep 8#32 a (kstep 16#32 a (kstep 32#32 a (kstep 64#32 a (kstep 128#32 a 0#32)))))))

theorem kstep_ofNat (a : EReal) (b e : ℕ) : kstep (BitVec.ofNat 32 b) a (BitVec.ofNat 32 e) = BitVec.ofNat 32 (nstep a b e) := by
  have hs : IntOp.shli .vector (BitVec.ofNat 32 (e + b)) 23#32 = BitVec.ofNat 32 (e + b) <<< 23 := rfl
  unfold kstep nstep
  rw [← BitVec.ofNat_add, hs]
  show Scalar.select (BitVec.ofBool (decide (a < pw (e + b)))) _ _ = _
  split
  · rename_i h; rw [decide_eq_true h]; rfl
  · rename_i h; rw [decide_eq_false h]; rfl
/-- The kernel's search computes `expN`. -/
theorem kexpo_eq (a : EReal) : kexpo a = BitVec.ofNat 32 (expN a) := by
  unfold kexpo expN
  simp only [kstep_ofNat]

/-- The kernel's inverse scale, from the exponent word. -/
def kinv (e : BitVec 32) : EReal :=
  Ideal.ofBits .f32 (IntOp.shli .vector (Scalar.select (IntOp.cmpi .eq e 0#32) 127#32 (256#32 - e)) 23#32)
/-- The kernel's scale byte, from the exponent word. -/
def kbyte (e : BitVec 32) : BitVec 32 := Scalar.select (IntOp.cmpi .eq e 0#32) 127#32 (e - 2#32)
/-- The kernel's scale, from the exponent word. -/
def kfac (e : BitVec 32) : EReal := Ideal.ofBits .f32 (IntOp.shli .vector (kbyte e) 23#32)

private theorem shl_pw (n : ℕ) : Ideal.ofBits .f32 (IntOp.shli .vector (BitVec.ofNat 32 n) 23#32) = pw n := rfl
private theorem sel_eq (n : ℕ) (h : n ≤ 254) (x y : BitVec 32) :
    Scalar.select (IntOp.cmpi .eq (BitVec.ofNat 32 n) 0#32) x y = if n = 0 then x else y := by
  have e : IntOp.cmpi .eq (BitVec.ofNat 32 n) 0#32 = BitVec.ofBool (decide (n = 0)) := by
    show BitVec.ofBool (BitVec.ofNat 32 n == 0#32) = _
    congr 1
    rw [Bool.eq_iff_iff]
    simp only [beq_iff_eq, decide_eq_true_eq]
    constructor
    · intro hh; have := congrArg BitVec.toNat hh; simp at this; omega
    · rintro rfl; rfl
  rw [e]
  split
  · rename_i h; rw [decide_eq_true h]; rfl
  · rename_i h; rw [decide_eq_false h]; rfl

/-- The kernel's inverse scale is the exact one. -/
theorem Normal.kinv {a : EReal} (h : Normal a) : kinv (kexpo a) = invE a := by
  unfold Mx.kinv invE
  rw [kexpo_eq]
  rcases h.cases with ⟨h0, h1⟩ | ⟨h0, h1, h2⟩
  · rw [h1, sel_eq _ (by omega), if_pos rfl, if_pos h0]
    rw [show (127#32 : BitVec 32) = BitVec.ofNat 32 127 from rfl, shl_pw, pw_eq _ (by omega) (by omega)]
    exact p2_zero
  · rw [sel_eq _ h2, if_neg (by omega), if_neg h0]
    have e : (256#32 - BitVec.ofNat 32 (expN a)) = BitVec.ofNat 32 (256 - expN a) := by
      apply BitVec.eq_of_toNat_eq; simp [BitVec.toNat_sub]; omega
    rw [e, shl_pw, pw_eq _ (by omega) (by omega)]
    congr 1; omega
/-- The kernel's scale byte is the exact one. -/
theorem Normal.kbyte {a : EReal} (h : Normal a) : kbyte (kexpo a) = BitVec.ofNat 32 (byteN a) := by
  unfold Mx.kbyte byteN
  rw [kexpo_eq]
  rcases h.cases with ⟨h0, h1⟩ | ⟨h0, h1, h2⟩
  · rw [h1, sel_eq _ (by omega), if_pos rfl, if_pos h0]
  · rw [sel_eq _ h2, if_neg (by omega), if_neg h0]
    apply BitVec.eq_of_toNat_eq; simp [BitVec.toNat_sub]; omega
/-- The kernel's scale is the exact one. -/
theorem Normal.kfac {a : EReal} (h : Normal a) : kfac (kexpo a) = facE a := by
  have hb := h.byte_bounds
  unfold Mx.kfac facE
  rw [h.kbyte, shl_pw, pw_eq _ hb.1 (by omega)]

/-! ## The reference's exponent -/

/-- `exp2` of an integer. -/
theorem exp2_int (k : ℤ) : Ideal.exp2 (((k : ℝ) : EReal)) = p2 k := by
  show ((Real.rpow 2 (k : ℝ) : ℝ) : EReal) = _
  unfold p2
  congr 1
  exact Real.rpow_intCast 2 k

/-- The greatest `k` of the 254 exponents with `2 ^ k ≤ a`, or -127. -/
def rfold (a : EReal) : EReal :=
  (Finset.univ : Finset (Fin 254)).fold max ⊥ fun k => if p2 ((k.val : ℤ) - 126) ≤ a then ((((k.val : ℤ) - 126 : ℤ) : ℝ) : EReal) else (((-127 : ℤ) : ℝ) : EReal)

/-- The reference's greatest fitting power has the exponent the search finds. -/
theorem rfold_eq {a : EReal} (ha : a < ⊤) : rfold a = ((((expN a : ℤ) - 127 : ℤ) : ℝ) : EReal) := by
  have hle := expN_le ha
  unfold rfold
  apply le_antisymm
  · rw [Finset.fold_max_le]
    refine ⟨bot_le, fun k _ => ?_⟩
    split
    · rename_i hk
      have : (k.val : ℤ) - 126 ≤ (expN a : ℤ) - 127 := by
        by_contra hc
        have h2 := expN_high ha (by have := k.isLt; omega)
        have h3 : p2 ((expN a : ℤ) - 126) ≤ p2 ((k.val : ℤ) - 126) := p2_le (by omega)
        exact absurd (h2.trans_le h3) (not_lt.2 hk)
      exact_mod_cast this
    · have : (-127 : ℤ) ≤ (expN a : ℤ) - 127 := by omega
      exact_mod_cast this
  · rw [Finset.le_fold_max]
    right
    by_cases h0 : expN a = 0
    · refine ⟨⟨0, by omega⟩, Finset.mem_univ _, ?_⟩
      split
      · have : (expN a : ℤ) - 127 ≤ ((0 : ℕ) : ℤ) - 126 := by omega
        exact_mod_cast this
      · have : (expN a : ℤ) - 127 ≤ -127 := by omega
        exact_mod_cast this
    · refine ⟨⟨expN a - 1, by omega⟩, Finset.mem_univ _, ?_⟩
      have e : ((expN a - 1 : ℕ) : ℤ) - 126 = (expN a : ℤ) - 127 := by omega
      simp only [e]
      rw [if_pos (expN_low ha h0)]

theorem ofInt_sub (a b : ℤ) : BitVec.ofInt 32 (a - b) = BitVec.ofInt 32 a - BitVec.ofInt 32 b := by
  rw [Int.sub_eq_add_neg, BitVec.ofInt_add, BitVec.ofInt_neg, BitVec.sub_eq_add_neg]

/-- The reference's `sx`, on words, from its fold. -/
def rsx (a : EReal) : BitVec 32 :=
  Scalar.select (Ideal.cmp .oeq a 0) 0#32 (Ideal.fptosi 32 (rfold a) + 1#32 - 3#32)

theorem fptosi_int (k : ℤ) (h1 : -1000 ≤ k) (h2 : k ≤ 1000) : Ideal.fptosi 32 (((k : ℝ) : EReal)) = BitVec.ofInt 32 k := by
  unfold Ideal.fptosi
  congr 1
  show max _ (min _ (if (0 : ℝ) ≤ (k : ℝ) then ⌊(k : ℝ)⌋ else ⌈(k : ℝ)⌉)) = k
  rw [Int.floor_intCast, Int.ceil_intCast, ite_self]
  norm_num; omega

/-- The reference's scale exponent. -/
theorem Normal.rsx {a : EReal} (h : Normal a) : rsx a = BitVec.ofInt 32 ((byteN a : ℤ) - 127) := by
  unfold Mx.rsx byteN
  have hc : Ideal.cmp .oeq a 0 = BitVec.ofBool (decide (a = 0)) := rfl
  rw [hc]
  rcases h.cases with ⟨h0, h1⟩ | ⟨h0, h1, h2⟩
  · rw [decide_eq_true h0, if_pos h0]; rfl
  · rw [decide_eq_false h0, if_neg h0, rfold_eq h.2, fptosi_int _ (by omega) (by omega)]
    show BitVec.ofInt 32 ((expN a : ℤ) - 127) + 1#32 - 3#32 = _
    rw [show (1#32 : BitVec 32) = BitVec.ofInt 32 1 from rfl, show (3#32 : BitVec 32) = BitVec.ofInt 32 3 from rfl,
      ← BitVec.ofInt_add, ← ofInt_sub]
    congr 1; omega

theorem ofInt_toInt (k : ℤ) (h1 : -1000 ≤ k) (h2 : k ≤ 1000) : (BitVec.ofInt 32 k).toInt = k := by
  rw [BitVec.toInt_ofInt, Int.bmod_def]; norm_num; omega

/-- The reference's inverse scale, byte and scale. -/
theorem Normal.rinv {a : EReal} (h : Normal a) : Ideal.exp2 ((((0#32 - Mx.rsx a).toInt : ℝ) : EReal)) = invE a := by
  have hb := h.byte_bounds
  rw [h.rsx, show (0#32 : BitVec 32) = BitVec.ofInt 32 0 from rfl, ← ofInt_sub, ofInt_toInt _ (by omega) (by omega), exp2_int]
  unfold invE byteN
  rcases h.cases with ⟨h0, h1⟩ | ⟨h0, h1, h2⟩
  · rw [if_pos h0, if_pos h0]; exact p2_zero
  · rw [if_neg h0, if_neg h0]; congr 1; omega
/-- The reference's scale byte. -/
theorem Normal.rbyte {a : EReal} (h : Normal a) : (Mx.rsx a + 127#32).setWidth 8 = BitVec.ofNat 8 (byteN a) := by
  have hb := h.byte_bounds
  rw [h.rsx, show (127#32 : BitVec 32) = BitVec.ofInt 32 127 from rfl, ← BitVec.ofInt_add,
    show ((byteN a : ℤ) - 127 + 127) = ((byteN a : ℕ) : ℤ) by omega, BitVec.ofInt_natCast]
  apply BitVec.eq_of_toNat_eq; simp
/-- A byte read as a scale. -/
theorem byteScale (n : ℕ) (h : n ≤ 255) : Ideal.exp2 ((((((BitVec.ofNat 8 n).setWidth 32 - 127#32).toInt : ℤ) : ℝ) : EReal)) = p2 ((n : ℤ) - 127) := by
  have e : ((BitVec.ofNat 8 n).setWidth 32 - 127#32) = BitVec.ofInt 32 ((n : ℤ) - 127) := by
    rw [ofInt_sub, BitVec.ofInt_natCast]
    have : (BitVec.ofNat 8 n).setWidth 32 = BitVec.ofNat 32 n := by
      apply BitVec.eq_of_toNat_eq; simp; omega
    rw [this]; rfl
  rw [e, ofInt_toInt _ (by omega) (by omega), exp2_int]

end Cert.Mx

end
-- ==== Proof.Math.Codes.lean ====
/- The quantised value of a scaled element, and the maximum over a block of 32 lanes by exchanges: scalars only. -/
module

public import proofs.«01_k».proof.Proof.Math.Exponent

@[expose] public section

noncomputable section

namespace Cert.Mx

open Idealize.ShloMosaic

/-! ## The code -/

/-- The quantum at a value's binade, and its inverse as the kernel writes it. -/
def quantum (v : EReal) : EReal :=
  Scalar.select (Ideal.cmp .olt (max v (-v)) (Ideal.ofBits .f32 0x40000000#32)) (Ideal.ofBits .f32 0x3E000000#32)
    (Scalar.select (Ideal.cmp .olt (max v (-v)) (Ideal.ofBits .f32 0x40800000#32)) (Ideal.ofBits .f32 0x3E800000#32) (Ideal.ofBits .f32 0x3F000000#32))
/-- One over the spacing of the codes at a magnitude. -/
def rquantum (v : EReal) : EReal :=
  Scalar.select (Ideal.cmp .olt (max v (-v)) (Ideal.ofBits .f32 0x40000000#32)) (Ideal.ofBits .f32 0x41000000#32)
    (Scalar.select (Ideal.cmp .olt (max v (-v)) (Ideal.ofBits .f32 0x40800000#32)) (Ideal.ofBits .f32 0x40800000#32) (Ideal.ofBits .f32 0x40000000#32))

/-- The code of a scaled value. -/
def codeE (v : EReal) : EReal :=
  min (Ideal.ofBits .f32 0x40F00000#32) (max (Ideal.ofBits .f32 0xC0F00000#32) (Ideal.liftRound Ideal.roundHalfEven (v * rquantum v) * quantum v))

private theorem bits_one : Ideal.ofBits .f32 0x3F800000#32 = ((1 : ℝ) : EReal) := by simp [Ideal.ofBits, Ideal.ieee]; norm_num [← EReal.coe_mul, ← EReal.coe_one]
private theorem bits_eighth : Ideal.ofBits .f32 0x3E000000#32 = ((1 / 8 : ℝ) : EReal) := by simp [Ideal.ofBits, Ideal.ieee]; norm_num [← EReal.coe_mul]
private theorem bits_quarter : Ideal.ofBits .f32 0x3E800000#32 = ((1 / 4 : ℝ) : EReal) := by simp [Ideal.ofBits, Ideal.ieee]; norm_num [← EReal.coe_mul]
private theorem bits_half : Ideal.ofBits .f32 0x3F000000#32 = ((1 / 2 : ℝ) : EReal) := by simp [Ideal.ofBits, Ideal.ieee]; norm_num [← EReal.coe_mul]
private theorem bits_8 : Ideal.ofBits .f32 0x41000000#32 = ((8 : ℝ) : EReal) := by simp [Ideal.ofBits, Ideal.ieee]; norm_num [← EReal.coe_mul]
private theorem bits_4 : Ideal.ofBits .f32 0x40800000#32 = ((4 : ℝ) : EReal) := by simp [Ideal.ofBits, Ideal.ieee]; norm_num [← EReal.coe_mul]
private theorem bits_2 : Ideal.ofBits .f32 0x40000000#32 = ((2 : ℝ) : EReal) := by simp [Ideal.ofBits, Ideal.ieee]; norm_num [← EReal.coe_mul]

private theorem div_one (a b : ℝ) (ha : a ≠ 0) (h : 1 / a = b) : Ideal.div ((1 : ℝ) : EReal) (a : EReal) = (b : EReal) := by
  unfold Ideal.div
  rw [if_neg (by exact_mod_cast ha), ← EReal.coe_inv, ← EReal.coe_mul, ← h, one_div, one_mul]

private theorem select_cases {α : Type} (c : BitVec 1) (x y : α) : Scalar.select c x y = x ∨ Scalar.select c x y = y := by
  unfold Scalar.select; split <;> simp

/-- The reference's `1 / q` is the kernel's table of inverses. -/
theorem div_quantum (v : EReal) : Ideal.div (Ideal.ofBits .f32 0x3F800000#32) (quantum v) = rquantum v := by
  unfold quantum rquantum
  generalize Ideal.cmp .olt (max v (-v)) (Ideal.ofBits .f32 0x40000000#32) = c
  generalize Ideal.cmp .olt (max v (-v)) (Ideal.ofBits .f32 0x40800000#32) = d
  rw [bits_one, bits_eighth, bits_quarter, bits_half, bits_8, bits_4, bits_2]
  have hc : c = 0#1 ∨ c = 1#1 := by revert c; decide
  have hd : d = 0#1 ∨ d = 1#1 := by revert d; decide
  rcases hc with rfl | rfl <;> rcases hd with rfl | rfl <;>
    simp only [ValueIdx.select_one, ValueIdx.select_zero] <;> exact div_one _ _ (by norm_num) (by norm_num)

/-! ## The maximum over 32 lanes -/

/-- The lane `s` away in the group of `2 s` (`s` a power of two). -/
def lx (s : ℕ) (l : Fin 128) : Fin 128 := ⟨(l.val ^^^ s) % 128, Nat.mod_lt _ (by decide)⟩
/-- Each lane with the lane `s` away. -/
def xmax (s : ℕ) (f : Fin 128 → EReal) (l : Fin 128) : EReal := max (f l) (f (lx s l))
/-- The five butterfly steps. -/
def gmax (f : Fin 128 → EReal) : Fin 128 → EReal := xmax 1 (xmax 2 (xmax 4 (xmax 8 (xmax 16 f))))

/-- Lane `k` of the block that lane `l` is in. -/
def blkLane (l : Fin 128) (k : Fin 32) : Fin 128 := ⟨32 * (l.val / 32) + k.val, by have := l.isLt; have := k.isLt; omega⟩

private theorem lx_div : ∀ l : Fin 128, (lx 1 l).val / 32 = l.val / 32 ∧ (lx 2 l).val / 32 = l.val / 32 ∧ (lx 4 l).val / 32 = l.val / 32
    ∧ (lx 8 l).val / 32 = l.val / 32 ∧ (lx 16 l).val / 32 = l.val / 32 := by decide +kernel

private theorem xmax_le {s : ℕ} {f : Fin 128 → EReal} {M : EReal} {b : ℕ} (hs : ∀ l : Fin 128, (lx s l).val / 32 = l.val / 32)
    (h : ∀ l : Fin 128, l.val / 32 = b → f l ≤ M) (l : Fin 128) (hl : l.val / 32 = b) : xmax s f l ≤ M :=
  max_le (h l hl) (h _ ((hs l).trans hl))

/-- The lane reached from `l` by the exchanges `d` names. -/
private def reach (d : Fin 32) (l : Fin 128) : Fin 128 :=
  let l1 := if d.val % 2 = 1 then lx 1 l else l
  let l2 := if d.val / 2 % 2 = 1 then lx 2 l1 else l1
  let l3 := if d.val / 4 % 2 = 1 then lx 4 l2 else l2
  let l4 := if d.val / 8 % 2 = 1 then lx 8 l3 else l3
  if d.val / 16 % 2 = 1 then lx 16 l4 else l4

private theorem reach_onto : ∀ (l : Fin 128) (k : Fin 32), ∃ d : Fin 32, reach d l = blkLane l k := by decide +kernel

private theorem le_xmax (s : ℕ) (f : Fin 128 → EReal) (l : Fin 128) (P : Prop) [Decidable P] : f (if P then lx s l else l) ≤ xmax s f l := by
  split
  · exact le_max_right _ _
  · exact le_max_left _ _

/-- The exchanges leave in every lane the maximum of its block. -/
theorem gmax_eq (f : Fin 128 → EReal) (l : Fin 128) : gmax f l = (Finset.univ : Finset (Fin 32)).fold max ⊥ fun k => f (blkLane l k) := by
  apply le_antisymm
  · have hf : ∀ l' : Fin 128, l'.val / 32 = l.val / 32 → f l' ≤ (Finset.univ : Finset (Fin 32)).fold max ⊥ fun k => f (blkLane l k) := by
      intro l' hl'
      rw [Finset.le_fold_max]
      right
      refine ⟨⟨l'.val % 32, Nat.mod_lt _ (by decide)⟩, Finset.mem_univ _, le_of_eq (congrArg f (Fin.ext ?_))⟩
      show l'.val = 32 * (l.val / 32) + l'.val % 32
      omega
    exact xmax_le (fun l => (lx_div l).1) (xmax_le (fun l => (lx_div l).2.1) (xmax_le (fun l => (lx_div l).2.2.1)
      (xmax_le (fun l => (lx_div l).2.2.2.1) (xmax_le (fun l => (lx_div l).2.2.2.2) hf)))) l rfl
  · rw [Finset.fold_max_le]
    refine ⟨bot_le, fun k _ => ?_⟩
    obtain ⟨d, hd⟩ := reach_onto l k
    rw [← hd]
    exact (le_xmax 16 f _ _).trans ((le_xmax 8 _ _ _).trans ((le_xmax 4 _ _ _).trans ((le_xmax 2 _ _ _).trans (le_xmax 1 _ _ _))))

end Cert.Mx

end
-- ==== Proof.Body.ChunkValue.lean ====
/- The preparation of a chunk read at an element, at the ideal values. -/
module

public import proofs.«01_k».proof.Proof.Body.Values
public import proofs.«01_k».proof.Proof.Math.Codes
public import Idealize.ShloMosaic.Lib.KernelVsHost
public import Idealize.ShloMosaic.Lib.ValueIdx

@[expose] public section

set_option maxRecDepth 16384

noncomputable section

namespace Cert.KernelIdeal.Body

open Cert.KernelIdeal.Gen Idealize.ShloMosaic Idealize.ShloMosaic.TcCoe
open Idealize.ShloMosaic.ValueIdx (ix2 ix3)
open Cert.Mx

local notation "C" => FVec Ideal S256x128 FTy.f32

/-- What a step of the exchange needs of its constants: the lane the chosen rotation reads is the lane `s` away. -/
def StepOk (s up : BitVec 32) : Prop := ∀ l : Fin 128,
  (IntOp.cmpi .eq (IntOp.andi (BitVec.ofNat 32 l.val) s) 0#32 = 1#1 ∧ (lx s.toNat l).val = (l.val + 128 - up.toNat % 128) % 128)
  ∨ (IntOp.cmpi .eq (IntOp.andi (BitVec.ofNat 32 l.val) s) 0#32 = 0#1 ∧ (lx s.toNat l).val = (l.val + 128 - s.toNat % 128) % 128)

/-- One step of the butterfly maximum at an element. -/
theorem gstep_apply (s up : BitVec 32) (h : StepOk s up) (m : C) (r : Fin 256) (l : Fin 128) :
    gstep s up m (ix2 r l) = xmax s.toNat (fun l => m (ix2 r l)) l := by
  have rot (w : BitVec 32) (e : (lx s.toNat l).val = (l.val + 128 - w.toNat % 128) % 128) :
      dynamicRotate 1 w none m rotates_S256x128_d1 (ix2 r l) = m (ix2 r (lx s.toNat l)) := by
    refine dynamicRotate_apply 1 w m rotates_S256x128_d1 (ix2 r l) (ix2 r (lx s.toNat l)) fun b => ?_
    match b with
    | ⟨0, _⟩ => rfl
    | ⟨1, _⟩ => exact e
  have hi : iota .tc S256x128 32 [1] iota_S256x128_d1_w32 (ix2 r l) = BitVec.ofNat 32 l.val := iota_single_apply _ _ _ _ _ _
  show max (m (ix2 r l)) (Scalar.select (IntOp.cmpi .eq (IntOp.andi (iota .tc S256x128 32 [1] iota_S256x128_d1_w32 (ix2 r l)) s) 0#32)
    (dynamicRotate 1 up none m rotates_S256x128_d1 (ix2 r l)) (dynamicRotate 1 s none m rotates_S256x128_d1 (ix2 r l))) = _
  rw [hi]
  unfold xmax
  rcases h l with ⟨hc, he⟩ | ⟨hc, he⟩
  · rw [hc, ValueIdx.select_one, rot up he]
  · rw [hc, ValueIdx.select_zero, rot s he]

private theorem ok1 : StepOk 1#32 127#32 := by unfold StepOk; decide +kernel
private theorem ok2 : StepOk 2#32 126#32 := by unfold StepOk; decide +kernel
private theorem ok4 : StepOk 4#32 124#32 := by unfold StepOk; decide +kernel
private theorem ok8 : StepOk 8#32 120#32 := by unfold StepOk; decide +kernel
private theorem ok16 : StepOk 16#32 112#32 := by unfold StepOk; decide +kernel

/-- The exchanges, row by row. -/
theorem groupMax_apply (m : C) (r : Fin 256) (l : Fin 128) : groupMax m (ix2 r l) = gmax (fun l => m (ix2 r l)) l := by
  unfold groupMax gmax
  rw [gstep_apply _ _ ok1]
  have e2 : (fun l => gstep 2#32 126#32 (gstep 4#32 124#32 (gstep 8#32 120#32 (gstep 16#32 112#32 m))) (ix2 r l)) = xmax 2 (xmax 4 (xmax 8 (xmax 16 fun l => m (ix2 r l)))) := by
    funext l
    rw [gstep_apply _ _ ok2]
    have e4 : (fun l => gstep 4#32 124#32 (gstep 8#32 120#32 (gstep 16#32 112#32 m)) (ix2 r l)) = xmax 4 (xmax 8 (xmax 16 fun l => m (ix2 r l))) := by
      funext l
      rw [gstep_apply _ _ ok4]
      have e8 : (fun l => gstep 8#32 120#32 (gstep 16#32 112#32 m) (ix2 r l)) = xmax 8 (xmax 16 fun l => m (ix2 r l)) := by
        funext l
        rw [gstep_apply _ _ ok8]
        have e16 : (fun l => gstep 16#32 112#32 m (ix2 r l)) = xmax 16 fun l => m (ix2 r l) := by
          funext l
          rw [gstep_apply _ _ ok16]; rfl
        rw [e16]; rfl
      rw [e8]; rfl
    rw [e4]; rfl
  rw [e2]; rfl

/-- The largest magnitude in the block of lane `l` of row `r` of a chunk. -/
def lmax (x : Vec Ideal S256x128 .bf16) (r : Fin 256) (l : Fin 128) : EReal :=
  (Finset.univ : Finset (Fin 32)).fold max ⊥ fun k => max (x (ix2 r (blkLane l k))) (-(x (ix2 r (blkLane l k)) : EReal))

/-- Widening a chunk keeps its elements. -/
theorem chunkF_apply (x : Vec Ideal S256x128 .bf16) (r : Fin 256) (l : Fin 128) : (chunkF x (ix2 r l) : EReal) = x (ix2 r l) :=
  shapeCast_apply (t := S256x128) x shapeCasts_S256x128_S256x128 (ix2 r l) (ix2 r l) rfl

/-- One step of the exponent search at an element. -/
theorem estep_apply (b : BitVec 32) (a : C) (e : IVec S256x128 32) (j : S256x128.Idx) : estep b a e j = kstep b (a j) (e j) := rfl
/-- The exponent search at an element. -/
theorem expo_apply (a : C) (j : S256x128.Idx) : expo a j = kexpo (a j) := by
  unfold expo kexpo
  simp only [estep_apply]
  rfl

/-- A chunk's exponents at an element. -/
theorem chunkE_apply (x : Vec Ideal S256x128 .bf16) (r : Fin 256) (l : Fin 128) : chunkE x (ix2 r l) = kexpo (lmax x r l) := by
  have h : groupMax (absf (chunkF x)) (ix2 r l) = lmax x r l := by
    rw [groupMax_apply, gmax_eq]
    unfold lmax
    refine Finset.fold_congr fun k _ => ?_
    show max (chunkF x (ix2 r (blkLane l k)) : EReal) (-(chunkF x (ix2 r (blkLane l k)) : EReal)) = _
    rw [chunkF_apply]
  unfold chunkE
  rw [expo_apply, h]

/-- A chunk's codes at an element. -/
theorem chunkCode_apply (x : Vec Ideal S256x128 .bf16) (r : Fin 256) (l : Fin 128) (h : Normal (lmax x r l)) :
    (chunkCode x (ix2 r l) : EReal) = codeE ((x (ix2 r l) : EReal) * invE (lmax x r l)) := by
  have e : (chunkCode x (ix2 r l) : EReal) = codeE ((chunkF x (ix2 r l) : EReal) * kinv (chunkE x (ix2 r l))) := rfl
  rw [e, chunkE_apply, chunkF_apply, h.kinv]

/-- A chunk's dequantised values at an element. -/
theorem chunkD_apply (x : Vec Ideal S256x128 .bf16) (r : Fin 256) (l : Fin 128) (h : Normal (lmax x r l)) :
    (chunkD x (ix2 r l) : EReal) = codeE ((x (ix2 r l) : EReal) * invE (lmax x r l)) * facE (lmax x r l) := by
  have e : (chunkD x (ix2 r l) : EReal) = (chunkCode x (ix2 r l) : EReal) * kfac (chunkE x (ix2 r l)) := rfl
  rw [e, chunkE_apply, chunkCode_apply x r l h, h.kfac]

/-- A chunk's scale bytes at an element. -/
theorem byteOf_apply (x : Vec Ideal S256x128 .bf16) (r : Fin 256) (l : Fin 128) (h : Normal (lmax x r l)) :
    byteOf (chunkE x) (ix2 r l) = BitVec.ofNat 32 (byteN (lmax x r l)) := by
  have e : byteOf (chunkE x) (ix2 r l) = kbyte (chunkE x (ix2 r l)) := rfl
  rw [e, chunkE_apply, h.kbyte]

end Cert.KernelIdeal.Body

end
-- ==== Proof.Math.Quant.lean ====
/- The quantised array: the largest magnitude of a block of 32, the code of an element, the element dequantised. -/
module

public import proofs.«01_k».proof.Proof.Math.Codes

@[expose] public section

noncomputable section

namespace Cert.Mx

open Idealize.ShloMosaic

/-- Lane `k` of block `b` of a row of 3584. -/
def col (b : Fin 112) (k : Fin 32) : Fin 3584 := ⟨32 * b.val + k.val, by omega⟩
/-- The largest magnitude of block `b` of row `r`. -/
def amax (X : Fin 256 → Fin 3584 → EReal) (r : Fin 256) (b : Fin 112) : EReal :=
  (Finset.univ : Finset (Fin 32)).fold max ⊥ fun k => max (X r (col b k)) (-X r (col b k))
/-- The block a column lies in. -/
def blk (c : Fin 3584) : Fin 112 := ⟨c.val / 32, by omega⟩
/-- The code of an element. -/
def codeX (X : Fin 256 → Fin 3584 → EReal) (r : Fin 256) (c : Fin 3584) : EReal := codeE (X r c * invE (amax X r (blk c)))
/-- An element dequantised: its code times the scale its block's byte stands for. -/
def deqX (X : Fin 256 → Fin 3584 → EReal) (r : Fin 256) (c : Fin 3584) : EReal := codeX X r c * facE (amax X r (blk c))

end Cert.Mx

end
-- ==== Proof.Body.XValue.lean ====
/- The codes, the prepared `x` and the scales the first grid point leaves, read at an element, at the ideal values. -/
module

public import proofs.«01_k».proof.Proof.Body.ChunkValue
public import proofs.«01_k».proof.Proof.Math.Quant
public import Idealize.ShloMosaic.Lib.MatmulPlain
public import Idealize.ShloMosaic.Lib.Pipeline.ValueKit.Tiles
public import Idealize.ShloMosaic.PureOps.Ideal.Laws

@[expose] public section

set_option maxRecDepth 16384

noncomputable section

namespace Cert.KernelIdeal.Body

open Cert.KernelIdeal.Gen Idealize.ShloMosaic Idealize.ShloMosaic.TcCoe
open Idealize.ShloMosaic.ValueIdx (ix2 ix3 eq_ix2)
open Cert.Mx

variable (x0 : Vec Ideal S256x3584 .bf16)

/-- The block of `x` by row and column. -/
def rows : Fin 256 → Fin 3584 → EReal := fun r c => x0 (ix2 r c)

/-- Lane l of chunk q as a column of x. -/
def qcol (q : Fin 28) (l : Fin 128) : Fin 3584 := ⟨128 * q.val + l.val, by omega⟩

/-- A chunk of x at an element. -/
theorem xc_apply (q : Fin 28) (r : Fin 256) (l : Fin 128) : (xc x0 q (ix2 r l) : EReal) = rows x0 r (qcol q l) := by
  refine View.ld_unit_apply_of (Val := Elt Ideal) (e := .bf16) x0 _ _ (inb_c q) (ix2 r l) (ix2 r (qcol q l)) fun a => ?_
  match a with
  | ⟨0, _⟩ => exact (Nat.zero_add _).symm
  | ⟨1, _⟩ => rfl

/-- The maximum over the lanes of a block is the maximum over the block. -/
theorem lmax_xc (q : Fin 28) (r : Fin 256) (l : Fin 128) : lmax (xc x0 q) r l = amax (rows x0) r (blk (qcol q l)) := by
  unfold lmax amax
  refine Finset.fold_congr fun k _ => ?_
  rw [xc_apply]
  have e : qcol q (blkLane l k) = col (blk (qcol q l)) k := by
    apply Fin.ext
    show 128 * q.val + (32 * (l.val / 32) + k.val) = 32 * ((128 * q.val + l.val) / 32) + k.val
    omega
  rw [e]

variable (hN : ∀ r b, Normal (amax (rows x0) r b))
include hN

/-- The codes of a chunk of x. -/
theorem chunkCode_xc (q : Fin 28) (r : Fin 256) (l : Fin 128) : (chunkCode (xc x0 q) (ix2 r l) : EReal) = codeX (rows x0) r (qcol q l) := by
  have h : Normal (lmax (xc x0 q) r l) := by rw [lmax_xc]; exact hN _ _
  rw [chunkCode_apply _ r l h, lmax_xc, xc_apply]
  rfl
/-- The dequantised values of a chunk of x. -/
theorem chunkD_xc (q : Fin 28) (r : Fin 256) (l : Fin 128) : (chunkD (xc x0 q) (ix2 r l) : EReal) = deqX (rows x0) r (qcol q l) := by
  have h : Normal (lmax (xc x0 q) r l) := by rw [lmax_xc]; exact hN _ _
  rw [chunkD_apply _ r l h, lmax_xc, xc_apply]
  rfl
/-- The scale bytes of a chunk of x. -/
theorem byteOf_xc (q : Fin 28) (r : Fin 256) (l : Fin 128) :
    byteOf (chunkE (xc x0 q)) (ix2 r l) = BitVec.ofNat 32 (byteN (amax (rows x0) r (blk (qcol q l)))) := by
  have h : Normal (lmax (xc x0 q) r l) := by rw [lmax_xc]; exact hN _ _
  rw [byteOf_apply _ r l h, lmax_xc]

/-! ## The codes -/

omit hN in
theorem mem_codePieces (xs : Fin 28 → Vec Ideal S256x128 .bf16) : ∀ (n : ℕ) (h : n ≤ 28) (p : View.Piece (Elt Ideal) S256x3584 .fp8e4m3),
    p ∈ codePieces xs n h → ∃ q : Fin 28, p = ⟨Rect.unit (s := S256x3584) ![0, 128 * q.val] S256x128.size (inb_c q), chunk8 (xs q)⟩
  | 0, _, p, hp => absurd hp List.not_mem_nil
  | n + 1, h, p, hp => by
    rcases List.mem_cons.mp hp with rfl | hp
    · exact ⟨⟨n, h⟩, rfl⟩
    · exact mem_codePieces xs n _ p hp
omit hN in
theorem codePieces_mem (xs : Fin 28 → Vec Ideal S256x128 .bf16) (q : Fin 28) : ∀ (n : ℕ) (h : n ≤ 28), q.val < n →
    (⟨Rect.unit (s := S256x3584) ![0, 128 * q.val] S256x128.size (inb_c q), chunk8 (xs q)⟩ : View.Piece (Elt Ideal) S256x3584 .fp8e4m3) ∈ codePieces xs n h
  | 0, _, hq => absurd hq (Nat.not_lt_zero _)
  | n + 1, h, hq => by
    by_cases e : q.val = n
    · have : q = ⟨n, h⟩ := Fin.ext e
      subst this
      exact List.mem_cons_self
    · exact List.mem_cons_of_mem _ (codePieces_mem xs q n _ (by omega))

/-- The codes stored, at an element. -/
theorem codesV_apply (r : Fin 256) (c : Fin 3584) : (codesV x0 (ix2 r c) : EReal) = codeX (rows x0) r c := by
  unfold codesV
  refine View.canon_apply_of_pieces (Val := Elt Ideal) (e := .fp8e4m3) (fun i : S256x3584.Idx => (codeX (rows x0) (i 0) (i 1) : EReal)) _ ?_ (ix2 r c) ?_
  · intro p hp x
    obtain ⟨q, rfl⟩ := mem_codePieces _ _ _ p hp
    obtain ⟨a, b, rfl⟩ : ∃ (a : Fin 256) (b : Fin 128), x = ix2 a b := ⟨x 0, x 1, eq_ix2 x⟩
    have e := chunkCode_xc x0 hN q a b
    refine Eq.trans e ?_
    have e0 : (Rect.unit (s := S256x3584) ![0, 128 * q.val] S256x128.size (inb_c q)).emb (ix2 a b) 0 = a := Fin.ext (by
      show 0 + 1 * a.val = a.val; omega)
    have e1 : (Rect.unit (s := S256x3584) ![0, 128 * q.val] S256x128.size (inb_c q)).emb (ix2 a b) 1 = qcol q b := Fin.ext (by
      show 128 * q.val + 1 * b.val = 128 * q.val + b.val; omega)
    show _ = codeX (rows x0) _ _
    rw [e0, e1]
  · refine ⟨_, codePieces_mem _ ⟨c.val / 128, by omega⟩ 28 le_rfl (by show c.val / 128 < 28; omega), ?_⟩
    rw [Rect.mem_set_unit]
    intro a
    match a with
    | ⟨0, _⟩ => exact ⟨Nat.zero_le _, by show r.val < 0 + 256; omega⟩
    | ⟨1, _⟩ => exact ⟨by show 128 * (c.val / 128) ≤ c.val; omega, by show c.val < 128 * (c.val / 128) + 128; omega⟩

/-! ## Prepared `x` -/

/-- The column of a 256-column tile that column `κ` of the prepared tile holds. -/
def perm (κ : Fin 256) : Fin 256 := ⟨4 * (κ.val % 64) + κ.val / 64, by omega⟩

/-- The word the permutation's row number is compared with. -/
def permW (v : BitVec 32) : BitVec 32 :=
  let n := Scalar.select (Scalar.cmpi .eq 64#32 0#32) 1#32 64#32
  let r := IntOp.remsi .vector v n
  let d := IntOp.divsi .vector v 64#32
  IntOp.addi
    (IntOp.muli 4#32 (Scalar.select (IntOp.andi (IntOp.xori (IntOp.cmpi .slt r 0#32) (Scalar.cmpi .slt n 0#32)) (IntOp.cmpi .ne r 0#32)) (IntOp.addi r n) r))
    (Scalar.select (IntOp.andi
        (IntOp.cmpi .ne (IntOp.subi ((IntOp.cmpi .sgt v 0#32).setWidth 32) ((IntOp.cmpi .slt v 0#32).setWidth 32))
          (Scalar.subi (Scalar.extui (Scalar.cmpi .sgt 64#32 0#32)) (Scalar.extui (Scalar.cmpi .slt 64#32 0#32))))
        (IntOp.cmpi .ne (IntOp.remsi .vector v 64#32) 0#32)) (IntOp.subi d 1#32) d)

omit hN in
theorem permW_eq : ∀ κ : Fin 256, permW (BitVec.ofNat 32 κ.val) = BitVec.ofNat 32 (perm κ).val := by decide +kernel

omit hN in
theorem ofNat_eq_iff (a b : ℕ) (ha : a < 2 ^ 32) (hb : b < 2 ^ 32) : (BitVec.ofNat 32 a = BitVec.ofNat 32 b) ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A comparison as 0 or 1. -/
def oneHot (p : Prop) [Decidable p] : EReal := if p then 1 else 0

omit hN in
theorem sitofp_cmpi (a b : BitVec 32) : (((((IntOp.cmpi .eq a b).setWidth 32).toInt : ℤ) : ℝ) : EReal) = oneHot (a = b) := by
  unfold oneHot
  by_cases h : a = b
  · subst h
    rw [if_pos rfl, show IntOp.cmpi .eq a a = 1#1 by simp [IntOp.cmpi]]
    norm_num [show ((1#1 : BitVec 1).setWidth 32).toInt = 1 by decide]
  · rw [if_neg h, show IntOp.cmpi .eq a b = 0#1 by unfold IntOp.cmpi; rw [beq_false_of_ne h]; rfl]
    norm_num [show ((0#1 : BitVec 1).setWidth 32).toInt = 0 by decide]

omit hN in
/-- The permutation matrix is one-hot in each column. -/
theorem permMatrix_apply (ρ κ : Fin 256) : ((k0_pay3 k0_pay2 : FVec Ideal S256x256 .bf16) (ix2 ρ κ) : EReal) = oneHot (ρ = perm κ) := by
  have h0 : iota .tc S256x256 32 [0] iota_S256x256_d0_w32 (ix2 ρ κ) = BitVec.ofNat 32 ρ.val := iota_single_apply _ _ _ _ _ _
  have h1 : iota .tc S256x256 32 [1] iota_S256x256_d1_w32 (ix2 ρ κ) = BitVec.ofNat 32 κ.val := iota_single_apply _ _ _ _ _ _
  have e : ((k0_pay3 k0_pay2 : FVec Ideal S256x256 .bf16) (ix2 ρ κ) : EReal)
      = (((((IntOp.cmpi .eq (iota .tc S256x256 32 [0] iota_S256x256_d0_w32 (ix2 ρ κ)) (permW (iota .tc S256x256 32 [1] iota_S256x256_d1_w32 (ix2 ρ κ)))).setWidth 32).toInt : ℤ) : ℝ) : EReal) := rfl
  rw [e, h0, h1, permW_eq, sitofp_cmpi]
  unfold oneHot
  simp only [ofNat_eq_iff ρ.val (perm κ).val (by omega) (by omega), Fin.ext_iff]

omit hN in
/-- A row times a one-hot column. -/
theorem sum_oneHot {n : ℕ} (f : Fin n → EReal) (p : Fin n) : ∑ k : Fin n, f k * oneHot (k = p) = f p := by
  rw [Finset.sum_eq_single p]
  · unfold oneHot; rw [if_pos rfl, mul_one]
  · intro b _ hb; unfold oneHot; rw [if_neg hb, mul_zero]
  · intro h; exact absurd (Finset.mem_univ p) h

/-- Column κ of tile kt. -/
def tcol (kt : Fin 14) (κ : Fin 256) : Fin 3584 := ⟨256 * kt.val + κ.val, by omega⟩

theorem pair_apply (kt : Fin 14) (r : Fin 256) (ρ : Fin 256) :
    (concatenate S256x256 1 [⟨S256x128, chunkD (xc x0 ⟨2 * kt.val, by omega⟩)⟩, ⟨S256x128, chunkD (xc x0 ⟨2 * kt.val + 1, by omega⟩)⟩]
      concatenates_S256x128_S256x128_S256x256_d1 (ix2 r ρ) : EReal) = deqX (rows x0) r (tcol kt ρ) := by
  by_cases h : ρ.val < 128
  · refine (concatenate_pair_apply_left (t := S256x256) (s₁ := S256x128) (s₂ := S256x128) 1 _ _ concatenates_S256x128_S256x128_S256x256_d1 (ix2 r ρ) rfl (ix2 r (⟨ρ.val, h⟩ : Fin 128)) fun b => ?_).trans ?_
    · match b with
      | ⟨0, _⟩ => rfl
      | ⟨1, _⟩ => rfl
    · refine (chunkD_xc x0 hN _ r _).trans (congrArg (deqX (rows x0) r) (Fin.ext ?_))
      show 128 * (2 * kt.val) + ρ.val = 256 * kt.val + ρ.val
      omega
  · refine (concatenate_pair_apply_right (t := S256x256) (s₁ := S256x128) (s₂ := S256x128) 1 _ _ concatenates_S256x128_S256x128_S256x256_d1 (ix2 r ρ) rfl rfl (ix2 r (⟨ρ.val - 128, by omega⟩ : Fin 128)) ?_ ?_).trans ?_
    · intro b hb
      match b with
      | ⟨0, _⟩ => rfl
      | ⟨1, _⟩ => exact absurd rfl hb
    · show (ρ.val - 128) + 128 = ρ.val
      omega
    · refine (chunkD_xc x0 hN _ r _).trans (congrArg (deqX (rows x0) r) (Fin.ext ?_))
      show 128 * (2 * kt.val + 1) + (ρ.val - 128) = 256 * kt.val + ρ.val
      omega

/-- The product with the permutation matrix permutes a tile. -/
theorem xpTile_apply (kt : Fin 14) (r : Fin 256) (κ : Fin 256) :
    (xpTile (xc x0 ⟨2 * kt.val, by omega⟩) (xc x0 ⟨2 * kt.val + 1, by omega⟩) (ix2 r κ) : EReal) = deqX (rows x0) r (tcol kt (perm κ)) := by
  unfold xpTile
  refine (shapeCast_apply (s := S256x256) (t := S256x256) _ shapeCasts_S256x256_S256x256 (ix2 r κ) (ix2 r κ) rfl).trans ?_
  refine (Ideal.matmul_plain_apply (M := 256) (K := 256) (N := 256) (φ₁ := .bf16) (φ₂ := .bf16) none _ _ _ r κ).trans ?_
  refine (congrArg (· + _) (show Ideal.ofBits .f32 0x00000000#32 = 0 from Ideal.ofBits_zero_f32)).trans ((zero_add _).trans ?_)
  have e : ∀ k : Fin 256, (concatenate S256x256 1 [⟨S256x128, chunkD (xc x0 ⟨2 * kt.val, by omega⟩)⟩, ⟨S256x128, chunkD (xc x0 ⟨2 * kt.val + 1, by omega⟩)⟩]
      concatenates_S256x128_S256x128_S256x256_d1 (ix2 r k) : EReal) * ((k0_pay3 k0_pay2 : FVec Ideal S256x256 .bf16) (ix2 k κ) : EReal)
      = deqX (rows x0) r (tcol kt k) * oneHot (k = perm κ) := fun k => by
    rw [permMatrix_apply]; exact congrArg (· * oneHot (k = perm κ)) (pair_apply x0 hN kt r k)
  exact (Finset.sum_congr rfl fun k _ => e k).trans (sum_oneHot (fun k => deqX (rows x0) r (tcol kt k)) (perm κ))

omit hN in
theorem mem_xpPieces (xs : Fin 28 → Vec Ideal S256x128 .bf16) : ∀ (n : ℕ) (h : n ≤ 14) (p : View.Piece (Elt Ideal) S256x3584 .bf16),
    p ∈ xpPieces xs n h → ∃ q : Fin 14, p = ⟨Rect.unit (s := S256x3584) ![0, 256 * q.val] S256x256.size (inb_x q), xpTile (xs ⟨2 * q.val, by omega⟩) (xs ⟨2 * q.val + 1, by omega⟩)⟩
  | 0, _, p, hp => absurd hp List.not_mem_nil
  | n + 1, h, p, hp => by
    rcases List.mem_cons.mp hp with rfl | hp
    · exact ⟨⟨n, h⟩, rfl⟩
    · exact mem_xpPieces xs n _ p hp
omit hN in
theorem xpPieces_mem (xs : Fin 28 → Vec Ideal S256x128 .bf16) (q : Fin 14) : ∀ (n : ℕ) (h : n ≤ 14), q.val < n →
    (⟨Rect.unit (s := S256x3584) ![0, 256 * q.val] S256x256.size (inb_x q), xpTile (xs ⟨2 * q.val, by omega⟩) (xs ⟨2 * q.val + 1, by omega⟩)⟩ : View.Piece (Elt Ideal) S256x3584 .bf16) ∈ xpPieces xs n h
  | 0, _, hq => absurd hq (Nat.not_lt_zero _)
  | n + 1, h, hq => by
    by_cases e : q.val = n
    · have : q = ⟨n, h⟩ := Fin.ext e
      subst this
      exact List.mem_cons_self
    · exact List.mem_cons_of_mem _ (xpPieces_mem xs q n _ (by omega))

/-- The column of `x` that a column of prepared `x` holds. -/
def permCol (c : Fin 3584) : Fin 3584 := ⟨256 * (c.val / 256) + (4 * (c.val % 256 % 64) + c.val % 256 / 64), by omega⟩

/-- The permuted operand at an element. -/
theorem xpV_apply (r : Fin 256) (c : Fin 3584) : (xpV x0 (ix2 r c) : EReal) = deqX (rows x0) r (permCol c) := by
  unfold xpV
  refine View.canon_apply_of_pieces (Val := Elt Ideal) (e := .bf16) (fun i : S256x3584.Idx => (deqX (rows x0) (i 0) (permCol (i 1)) : EReal)) _ ?_ (ix2 r c) ?_
  · intro p hp x
    obtain ⟨q, rfl⟩ := mem_xpPieces _ _ _ p hp
    obtain ⟨a, b, rfl⟩ : ∃ (a : Fin 256) (b : Fin 256), x = ix2 a b := ⟨x 0, x 1, eq_ix2 x⟩
    refine Eq.trans (xpTile_apply x0 hN q a b) ?_
    have e0 : (Rect.unit (s := S256x3584) ![0, 256 * q.val] S256x256.size (inb_x q)).emb (ix2 a b) 0 = a := Fin.ext (by
      show 0 + 1 * a.val = a.val; omega)
    have e1 : permCol ((Rect.unit (s := S256x3584) ![0, 256 * q.val] S256x256.size (inb_x q)).emb (ix2 a b) 1) = tcol q (perm b) := by
      have e2 : (Rect.unit (s := S256x3584) ![0, 256 * q.val] S256x256.size (inb_x q)).emb (ix2 a b) 1 = tcol q b := Fin.ext (by
        show 256 * q.val + 1 * b.val = 256 * q.val + b.val; omega)
      rw [e2]
      apply Fin.ext
      show 256 * ((256 * q.val + b.val) / 256) + (4 * ((256 * q.val + b.val) % 256 % 64) + (256 * q.val + b.val) % 256 / 64) = 256 * q.val + (4 * (b.val % 64) + b.val / 64)
      omega
    show _ = deqX (rows x0) _ _
    rw [e0, e1]
  · refine ⟨_, xpPieces_mem _ ⟨c.val / 256, by omega⟩ 14 le_rfl (by show c.val / 256 < 14; omega), ?_⟩
    rw [Rect.mem_set_unit]
    intro a
    match a with
    | ⟨0, _⟩ => exact ⟨Nat.zero_le _, by show r.val < 0 + 256; omega⟩
    | ⟨1, _⟩ => exact ⟨by show 256 * (c.val / 256) ≤ c.val; omega, by show c.val < 256 * (c.val / 256) + 256; omega⟩

/-! ## The scales -/

omit hN in
/-- The matrix that picks the first lane of each block is one-hot. -/
theorem pick_apply (n : ℕ) (hn : n < 28) (l : Fin 128) (κ : Fin 128) :
    ((pick (BitVec.ofNat 32 (4 * n)) : FVec Ideal S128x128 .bf16) (ix2 l κ) : EReal) = oneHot (n = κ.val / 4 ∧ l.val = 32 * (κ.val % 4)) := by
  have h0 : iota .tc S128x128 32 [0] iota_S128x128_d0_w32 (ix2 l κ) = BitVec.ofNat 32 l.val := iota_single_apply _ _ _ _ _ _
  have h1 : iota .tc S128x128 32 [1] iota_S128x128_d1_w32 (ix2 l κ) = BitVec.ofNat 32 κ.val := iota_single_apply _ _ _ _ _ _
  have e : ((pick (BitVec.ofNat 32 (4 * n)) : FVec Ideal S128x128 .bf16) (ix2 l κ) : EReal)
      = (((((IntOp.cmpi .eq (iota .tc S128x128 32 [0] iota_S128x128_d0_w32 (ix2 l κ)) ((iota .tc S128x128 32 [1] iota_S128x128_d1_w32 (ix2 l κ) - BitVec.ofNat 32 (4 * n)) * 32#32)).setWidth 32).toInt : ℤ) : ℝ) : EReal) := rfl
  rw [e, h0, h1, sitofp_cmpi]
  unfold oneHot
  have hiff : (BitVec.ofNat 32 l.val = (BitVec.ofNat 32 κ.val - BitVec.ofNat 32 (4 * n)) * 32#32) ↔ (n = κ.val / 4 ∧ l.val = 32 * (κ.val % 4)) := by
    rw [← BitVec.toNat_inj]
    simp only [BitVec.toNat_ofNat, BitVec.toNat_mul, BitVec.toNat_sub]
    have := l.isLt; have := κ.isLt
    omega
  simp only [hiff]

/-- The byte of a block's scale, as a real. -/
def byteR (X : Fin 256 → Fin 3584 → EReal) (r : Fin 256) (b : Fin 112) : EReal := (((byteN (amax X r b) : ℤ) : ℝ) : EReal)

/-- The gathered scale bytes after n chunks. -/
theorem accS_apply (r : Fin 256) (b : Fin 112) : ∀ (n : ℕ) (h : n ≤ 28),
    (accS (xc x0) n h (ix2 r (⟨b.val, by omega⟩ : Fin 128)) : EReal) = if b.val / 4 < n then byteR (rows x0) r b else 0
  | 0, _ => Ideal.ofBits_zero_f32
  | n + 1, h => by
    have ih := accS_apply r b n (Nat.le_of_succ_le h)
    refine (congrArg₂ (fun u v : EReal => u + v) ih ((Ideal.matmul_plain_apply (M := 256) (K := 128) (N := 128) (φ₁ := .bf16) (φ₂ := .bf16) none _ _ _ r _).trans
      (congrArg (· + _) (show Ideal.ofBits .f32 0x00000000#32 = 0 from Ideal.ofBits_zero_f32)))).trans ?_
    rw [zero_add]
    have e : ∀ k : Fin 128, (truncf .bf16 (sitofp (F := Ideal) .f32 (byteOf (chunkE (xc x0 ⟨n, h⟩)))) bitsLt_bf16_f32 (ix2 r k) : EReal)
        * ((pick (BitVec.ofNat 32 (4 * n)) : FVec Ideal S128x128 .bf16) (ix2 k (⟨b.val, by omega⟩ : Fin 128)) : EReal)
        = (if n = b.val / 4 then byteR (rows x0) r b else 0) * oneHot (k = (⟨32 * (b.val % 4), by omega⟩ : Fin 128)) := fun k => by
      rw [pick_apply n (by omega)]
      have e1 : (truncf .bf16 (sitofp (F := Ideal) .f32 (byteOf (chunkE (xc x0 ⟨n, h⟩)))) bitsLt_bf16_f32 (ix2 r k) : EReal)
        = (((byteOf (chunkE (xc x0 ⟨n, h⟩)) (ix2 r k)).toInt : ℝ) : EReal) := rfl
      rw [e1, byteOf_xc x0 hN]
      unfold oneHot
      by_cases h1 : n = b.val / 4
      · by_cases h2 : k.val = 32 * (b.val % 4)
        · rw [if_pos ⟨h1, h2⟩, if_pos h1, if_pos (Fin.ext h2)]
          have hb : blk (qcol ⟨n, h⟩ k) = b := by
            apply Fin.ext
            show (128 * n + k.val) / 32 = b.val
            omega
          rw [hb]
          have hbd := (hN r b).byte_bounds
          unfold byteR
          rw [← BitVec.ofInt_natCast, ofInt_toInt _ (by omega) (by omega)]
        · rw [if_neg (fun hh => h2 hh.2), if_neg (fun hh => h2 (congrArg Fin.val hh)), mul_zero, mul_zero]
      · rw [if_neg (fun hh => h1 hh.1), if_neg h1, mul_zero, zero_mul]
    refine (congrArg (_ + ·) ((Finset.sum_congr rfl fun k _ => e k).trans (sum_oneHot (fun _ => _) _))).trans ?_
    by_cases h1 : n = b.val / 4
    · rw [if_neg (by omega), if_pos h1, if_pos (by omega), zero_add]
    · rw [if_neg h1, add_zero]
      by_cases h2 : b.val / 4 < n
      · rw [if_pos h2, if_pos (by omega)]
      · rw [if_neg h2, if_neg (by omega)]

/-- The scale bytes stored, at an element. -/
theorem scalesV_apply (r : Fin 256) (b : Fin 112) : scalesV x0 (ix2 r b) = BitVec.ofNat 8 (byteN (amax (rows x0) r b)) := by
  have hbd := (hN r b).byte_bounds
  have e1 : extractStridedSlice S256x112 ![0, 0] (accS (xc x0) 28 le_rfl) slices_S256x128_o0_0_S256x112 (ix2 r b)
      = accS (xc x0) 28 le_rfl (ix2 r (⟨b.val, by omega⟩ : Fin 128)) := by
    refine extractStridedSlice_apply (s := S256x128) (t := S256x112) _ _ slices_S256x128_o0_0_S256x112 (ix2 r b) _ fun a => ?_
    match a with
    | ⟨0, _⟩ => exact (Nat.zero_add _).symm
    | ⟨1, _⟩ => exact (Nat.zero_add _).symm
  have e : scalesV x0 (ix2 r b) = (Ideal.fptosi 32 (extractStridedSlice S256x112 ![0, 0] (accS (xc x0) 28 le_rfl) slices_S256x128_o0_0_S256x112 (ix2 r b))).setWidth 8 := rfl
  rw [e, e1, accS_apply x0 hN, if_pos (by omega)]
  unfold byteR
  rw [fptosi_int _ (by omega) (by omega), BitVec.ofInt_natCast]
  apply BitVec.eq_of_toNat_eq
  simp only [BitVec.toNat_setWidth, BitVec.toNat_ofNat]
  omega

end Cert.KernelIdeal.Body

end
-- ==== Proof.Math.Weights.lean ====
/- The weight codes: a byte triple's four 6-bit fields as the kernel reads them (bytes `s eeee mmm`, as fp8) and as the reference
   does (sign, exponent, fraction), and the scales. Scalars only. -/
module

public import proofs.«01_k».proof.Proof.Math.Exponent
public import Mathlib.Tactic.IntervalCases

@[expose] public section

noncomputable section

namespace Cert.Mx

open Idealize.ShloMosaic

/-! ## The fields -/

/-- The byte `s eeee mmm` a 6-bit code spreads out to. -/
def spread (c : BitVec 6) : BitVec 8 := (c.setWidth 8 &&& 0x1F#8) ||| ((c.setWidth 8 <<< 2) &&& 0x80#8)

/-- The 6-bit code of field `j` of a byte triple. -/
def code6 (j : Fin 4) (b0 b1 b2 : BitVec 8) : BitVec 6 :=
  match j with
  | 0 => b0.setWidth 6
  | 1 => (b0 >>> 6).setWidth 6 ||| (b1.setWidth 6 <<< 2)
  | 2 => (b1 >>> 4).setWidth 6 ||| (b2.setWidth 6 <<< 4)
  | 3 => (b2 >>> 2).setWidth 6

/-- The kernel's word operations, byte by byte. -/
theorem word0_byte (w : BitVec 32) (i : Fin 4) :
    ((w &&& 522133279#32) ||| ((w <<< 2) &&& 2155905152#32)).extractLsb' (8 * i.val) 8 = spread (code6 0 (w.extractLsb' (8 * i.val) 8) 0 0) := by
  apply BitVec.eq_of_getLsbD_eq
  intro q hq
  fin_cases i <;> interval_cases q <;> simp [spread, code6]
theorem word1_byte (w w' : BitVec 32) (i : Fin 4) :
    ((((w >>> 6) &&& 50529027#32) ||| ((w' <<< 2) &&& 471604252#32)) ||| ((w' <<< 4) &&& 2155905152#32)).extractLsb' (8 * i.val) 8
      = spread (code6 1 (w.extractLsb' (8 * i.val) 8) (w'.extractLsb' (8 * i.val) 8) 0) := by
  apply BitVec.eq_of_getLsbD_eq
  intro q hq
  fin_cases i <;> interval_cases q <;> simp [spread, code6]
theorem word2_byte (w w' : BitVec 32) (i : Fin 4) :
    ((((w >>> 4) &&& 252645135#32) ||| ((w' <<< 4) &&& 269488144#32)) ||| ((w' <<< 6) &&& 2155905152#32)).extractLsb' (8 * i.val) 8
      = spread (code6 2 0 (w.extractLsb' (8 * i.val) 8) (w'.extractLsb' (8 * i.val) 8)) := by
  apply BitVec.eq_of_getLsbD_eq
  intro q hq
  fin_cases i <;> interval_cases q <;> simp [spread, code6]
theorem word3_byte (w : BitVec 32) (i : Fin 4) :
    (((w >>> 2) &&& 522133279#32) ||| (w &&& 2155905152#32)).extractLsb' (8 * i.val) 8 = spread (code6 3 0 0 (w.extractLsb' (8 * i.val) 8)) := by
  apply BitVec.eq_of_getLsbD_eq
  intro q hq
  fin_cases i <;> interval_cases q <;> simp [spread, code6]

/-- A byte widened with zeros is shifted right the same with or without the sign. -/
theorem shrsi_byte (b : BitVec 8) (k : BitVec 32) (hk : k.toNat < 32) : IntOp.shrsi .vector (b.setWidth 32) k = b.setWidth 32 >>> k.toNat := by
  have hm : (b.setWidth 32).msb = false := by simp [BitVec.msb_eq_decide]; have := b.isLt; omega
  unfold IntOp.shrsi
  simp only [hk, if_true, reduceIte, BitVec.sshiftRight_eq', BitVec.sshiftRight_eq_of_msb_false hm]

/-- The reference's fields. -/
theorem fieldC0 (b0 b1 b2 : BitVec 8) : IntOp.andi (b0.setWidth 32) 63#32 = (code6 0 b0 b1 b2).setWidth 32 := by
  apply BitVec.eq_of_getLsbD_eq
  intro q hq
  interval_cases q <;> simp [code6, IntOp.andi]
/-- The second field of three bytes. -/
theorem fieldC1 (b0 b1 b2 : BitVec 8) :
    IntOp.ori (IntOp.shrsi .vector (b0.setWidth 32) 6#32) (IntOp.shli .vector (IntOp.andi (b1.setWidth 32) 15#32) 2#32) = (code6 1 b0 b1 b2).setWidth 32 := by
  rw [shrsi_byte _ _ (by decide)]
  apply BitVec.eq_of_getLsbD_eq
  intro q hq
  interval_cases q <;> simp [code6, IntOp.andi, IntOp.ori, IntOp.shli]
/-- The third field. -/
theorem fieldC2 (b0 b1 b2 : BitVec 8) :
    IntOp.ori (IntOp.shrsi .vector (b1.setWidth 32) 4#32) (IntOp.shli .vector (IntOp.andi (b2.setWidth 32) 3#32) 4#32) = (code6 2 b0 b1 b2).setWidth 32 := by
  rw [shrsi_byte _ _ (by decide)]
  apply BitVec.eq_of_getLsbD_eq
  intro q hq
  interval_cases q <;> simp [code6, IntOp.andi, IntOp.ori, IntOp.shli]
/-- The fourth field. -/
theorem fieldC3 (b0 b1 b2 : BitVec 8) : IntOp.shrsi .vector (b2.setWidth 32) 2#32 = (code6 3 b0 b1 b2).setWidth 32 := by
  rw [shrsi_byte _ _ (by decide)]
  apply BitVec.eq_of_getLsbD_eq
  intro q hq
  interval_cases q <;> simp [code6]

/-! ## The value of a code -/

/-- The value of a 6-bit code as the reference computes it. -/
def magC (c : BitVec 32) : EReal :=
  Scalar.select (IntOp.cmpi .eq (IntOp.andi (IntOp.shrsi .vector c 3#32) 3#32) 0#32)
    ((((IntOp.andi c 7#32).toInt : ℝ) : EReal) * Ideal.ofBits .f32 0x3E000000#32)
    (Ideal.exp2 (((IntOp.subi (IntOp.andi (IntOp.shrsi .vector c 3#32) 3#32) 1#32).toInt : ℝ) : EReal)
      * (Ideal.ofBits .f32 0x3F800000#32 + (((IntOp.andi c 7#32).toInt : ℝ) : EReal) * Ideal.ofBits .f32 0x3E000000#32))
/-- The reference's decoding of a 6-bit code. -/
def valC (c : BitVec 32) : EReal :=
  Scalar.select (IntOp.cmpi .eq (IntOp.andi (IntOp.shrsi .vector c 5#32) 1#32) 1#32) (Ideal.ofBits .f32 0x00000000#32 - magC c) (magC c)

/-- The code's value in eighths, and the reference's parts. -/
def eighths (c : BitVec 6) : ℤ :=
  (if c.toNat / 32 = 1 then -1 else 1) * (if c.toNat / 8 % 4 = 0 then (c.toNat % 8 : ℕ) else 2 ^ (c.toNat / 8 % 4 - 1) * (8 + c.toNat % 8 : ℕ))

private theorem bits_eighth : Ideal.ofBits .f32 0x3E000000#32 = ((1 / 8 : ℝ) : EReal) := by
  simp [Ideal.ofBits, Ideal.ieee]; norm_num [← EReal.coe_mul]
private theorem bits_one : Ideal.ofBits .f32 0x3F800000#32 = ((1 : ℝ) : EReal) := by
  simp [Ideal.ofBits, Ideal.ieee]; norm_num [← EReal.coe_mul, ← EReal.coe_one]
private theorem bits_zero : Ideal.ofBits .f32 0x00000000#32 = ((0 : ℝ) : EReal) := by
  simp [Ideal.ofBits, Ideal.ieee]

private theorem parts : ∀ c : BitVec 6,
    IntOp.andi (IntOp.shrsi .vector (c.setWidth 32) 3#32) 3#32 = BitVec.ofNat 32 (c.toNat / 8 % 4)
    ∧ IntOp.andi (c.setWidth 32) 7#32 = BitVec.ofNat 32 (c.toNat % 8)
    ∧ IntOp.andi (IntOp.shrsi .vector (c.setWidth 32) 5#32) 1#32 = BitVec.ofNat 32 (c.toNat / 32) := by decide +kernel
private theorem toInt_lt8 : ∀ k : Fin 8, (BitVec.ofNat 32 k.val).toInt = k.val := by decide
private theorem spread_parts : ∀ c : BitVec 6, ((spread c).extractLsb' 7 1 == 1#1) = decide (c.toNat / 32 = 1)
    ∧ ((spread c).extractLsb' 3 4).toNat = c.toNat / 8 % 4 ∧ ((spread c).extractLsb' 0 3).toNat = c.toNat % 8 := by decide +kernel

/-- As fp8, a spread-out code is its value over 64. -/
theorem fp8_spread (c : BitVec 6) : Ideal.ofBits .fp8e4m3 (spread c) = (((eighths c : ℝ) / 512 : ℝ) : EReal) := by
  show Ideal.e4m3fn (spread c) = _
  obtain ⟨hs, he, hm⟩ := spread_parts c
  unfold Ideal.e4m3fn
  simp only [hs, he, hm]
  rw [if_neg (by omega)]
  unfold eighths
  have h4 : c.toNat / 8 % 4 < 4 := by omega
  generalize c.toNat / 8 % 4 = e at *
  generalize c.toNat % 8 = m
  rcases (show e = 0 ∨ e = 1 ∨ e = 2 ∨ e = 3 by omega) with rfl | rfl | rfl | rfl <;>
    (by_cases h : c.toNat / 32 = 1 <;>
      simp only [h, decide_true, decide_false, if_true, if_false, reduceIte] <;>
      refine congrArg (fun r : ℝ => (r : EReal)) ?_ <;> push_cast <;> norm_num <;> ring)

/-- The reference's value of a code. -/
theorem valC_eq (c : BitVec 6) : valC (c.setWidth 32) = (((eighths c : ℝ) / 8 : ℝ) : EReal) := by
  obtain ⟨he, hm, hs⟩ := parts c
  unfold valC magC
  rw [he, hm, hs, bits_eighth, bits_one, bits_zero]
  have hm8 := toInt_lt8 ⟨c.toNat % 8, Nat.mod_lt _ (by decide)⟩
  dsimp only at hm8
  rw [hm8]
  have h2 : c.toNat / 32 < 2 := by have := c.isLt; omega
  have h4 : c.toNat / 8 % 4 < 4 := by omega
  unfold eighths
  generalize c.toNat / 8 % 4 = e at *
  generalize c.toNat % 8 = m
  generalize c.toNat / 32 = s at *
  have hexp (k : ℤ) : Ideal.exp2 (((k : ℤ) : ℝ) : EReal) = (((2 : ℝ) ^ k : ℝ) : EReal) := exp2_int k
  have c00 : IntOp.cmpi .eq (BitVec.ofNat 32 0) 0#32 = 1#1 := by decide
  have c10 : IntOp.cmpi .eq (BitVec.ofNat 32 1) 0#32 = 0#1 := by decide
  have c20 : IntOp.cmpi .eq (BitVec.ofNat 32 2) 0#32 = 0#1 := by decide
  have c30 : IntOp.cmpi .eq (BitVec.ofNat 32 3) 0#32 = 0#1 := by decide
  have c01 : IntOp.cmpi .eq (BitVec.ofNat 32 0) 1#32 = 0#1 := by decide
  have c11 : IntOp.cmpi .eq (BitVec.ofNat 32 1) 1#32 = 1#1 := by decide
  have s1 : (IntOp.subi (BitVec.ofNat 32 1) 1#32).toInt = 0 := by decide
  have s2 : (IntOp.subi (BitVec.ofNat 32 2) 1#32).toInt = 1 := by decide
  have s3 : (IntOp.subi (BitVec.ofNat 32 3) 1#32).toInt = 2 := by decide
  rcases (show e = 0 ∨ e = 1 ∨ e = 2 ∨ e = 3 by omega) with rfl | rfl | rfl | rfl <;>
    rcases (show s = 0 ∨ s = 1 by omega) with rfl | rfl <;>
    · simp only [c00, c10, c20, c30, c01, c11, s1, s2, s3, hexp, ValueIdx.select_one, ValueIdx.select_zero, ← EReal.coe_mul,
        ← EReal.coe_add, ← EReal.coe_sub]
      refine congrArg (fun r : ℝ => (r : EReal)) ?_
      push_cast
      norm_num
      try ring

/-! ## The scales -/

/-- A scale byte shifted into the exponent of a bf16 word is its power of two. -/
theorem bf16_scale (u : BitVec 8) (h1 : 1 ≤ u.toNat) (h2 : u.toNat ≤ 254) :
    Ideal.ofBits .bf16 (u.setWidth 16 <<< 7) = p2 ((u.toNat : ℤ) - 127) := by
  have hs : ((u.setWidth 16 <<< 7).extractLsb' 15 1 == 1#1) = false := by
    have : (u.setWidth 16 <<< 7).extractLsb' 15 1 = 0#1 := by
      apply BitVec.eq_of_getLsbD_eq; intro q hq; interval_cases q; simp
    rw [this]; rfl
  have he : ((u.setWidth 16 <<< 7).extractLsb' 7 8) = u := by
    apply BitVec.eq_of_getLsbD_eq; intro q hq; interval_cases q <;> simp
  have hf : ((u.setWidth 16 <<< 7).extractLsb' 0 7) = 0#7 := by
    apply BitVec.eq_of_getLsbD_eq; intro q hq; interval_cases q <;> simp
  show Ideal.ieee 8 7 (u.setWidth 16 <<< 7) = _
  unfold Ideal.ieee
  simp only [hs, he, hf]
  rw [if_neg (by omega), if_neg (by omega)]
  unfold p2
  refine congrArg (fun r : ℝ => (r : EReal)) ?_
  rw [show ((u.toNat : ℤ) - 127) = 7 + ((u.toNat : ℤ) - (2 ^ (8 - 1) - 1) - (7 : ℕ)) by push_cast; ring, zpow_add₀ (by norm_num)]
  norm_num

/-- Both halves of a scale word are the scale. -/
theorem scaleWord_half (u : BitVec 8) (i : Fin 2) :
    ((IntOp.ori (IntOp.shli .vector (u.setWidth 32) 7#32) (IntOp.shli .vector (u.setWidth 32) 23#32)).extractLsb' (16 * i.val) 16) = u.setWidth 16 <<< 7 := by
  apply BitVec.eq_of_getLsbD_eq
  intro q hq
  fin_cases i <;> interval_cases q <;> simp [IntOp.ori, IntOp.shli]

end Cert.Mx

end
-- ==== Proof.Body.WValue.lean ====
/- A tile of decoded weights read at an element, at the ideal values. -/
module

public import proofs.«01_k».proof.Proof.Body.Values
public import proofs.«01_k».proof.Proof.Math.Weights
public import Idealize.ShloMosaic.Lib.BitcastFour
public import Idealize.ShloMosaic.Lib.Pipeline.ValueKit.Tiles
public import Idealize.ShloMosaic.Lib.Pointwise.SelectCore

@[expose] public section

set_option maxRecDepth 16384

noncomputable section

namespace Cert.KernelIdeal.Body

open Cert.KernelIdeal.Gen Idealize.ShloMosaic.TcCoe
open Idealize.ShloMosaic hiding ix2 ix3 eq_ix2
open Idealize.ShloMosaic.ValueIdx (ix2 ix3 eq_ix2)
open Cert.Mx

/-- Four equal slabs of rows one after another, read at a row. -/
theorem concat4_apply {α : Type} {R T N : ℕ} (x0 x1 x2 x3 : (⟨2, ![R, N]⟩ : Shape).Idx → α)
    (h : Shape.Concatenates [⟨2, ![R, N]⟩, ⟨2, ![R, N]⟩, ⟨2, ![R, N]⟩, ⟨2, ![R, N]⟩] (⟨2, ![T, N]⟩ : Shape) 0) (j : Fin 4) (g : Fin R) (n : Fin N) (t : Fin T)
    (ht : t.val = R * j.val + g.val) :
    concatenate ⟨2, ![T, N]⟩ 0 [⟨⟨2, ![R, N]⟩, x0⟩, ⟨⟨2, ![R, N]⟩, x1⟩, ⟨⟨2, ![R, N]⟩, x2⟩, ⟨⟨2, ![R, N]⟩, x3⟩] h (ix2 t n)
      = (match j with | 0 => x0 | 1 => x1 | 2 => x2 | 3 => x3) (ix2 g n) := by
  have key (x : (⟨2, ![R, N]⟩ : Shape).Idx → α) (k : (⟨2, ![R, N]⟩ : Shape).Idx) (h0 : (k 0).val = g.val) (h1 : (k 1).val = n.val) : x k = x (ix2 g n) := by
    refine congrArg x (funext fun b => ?_)
    match b with
    | ⟨0, _⟩ => exact Fin.ext h0
    | ⟨1, _⟩ => exact Fin.ext h1
  have hg := g.isLt
  rw [concatenate_cons_apply]
  have hv : (ix2 t n (0 : Fin 2)).val = R * j.val + g.val := ht
  fin_cases j
  · rw [concatenateAt_cons, dif_pos (by show t.val < R; simp at ht; omega)]
    exact key x0 _ (by show t.val = g.val; simp at ht; omega) rfl
  · rw [concatenateAt_cons, dif_neg (by show ¬ t.val < R; simp at ht; omega), concatenateAt_cons, dif_pos (by show t.val - R < R; simp at ht; omega)]
    exact key x1 _ (by show t.val - R = g.val; simp at ht; omega) rfl
  · rw [concatenateAt_cons, dif_neg (by show ¬ t.val < R; simp at ht; omega), concatenateAt_cons, dif_neg (by show ¬ t.val - R < R; simp at ht; omega),
      concatenateAt_cons, dif_pos (by show t.val - R - R < R; simp at ht; omega)]
    exact key x2 _ (by show t.val - R - R = g.val; simp at ht; omega) rfl
  · rw [concatenateAt_cons, dif_neg (by show ¬ t.val < R; simp at ht; omega), concatenateAt_cons, dif_neg (by show ¬ t.val - R < R; simp at ht; omega),
      concatenateAt_cons, dif_neg (by show ¬ t.val - R - R < R; simp at ht; omega), concatenateAt_singleton]
    exact key x3 _ (by show t.val - R - R - R = g.val; simp at ht; omega) rfl

/-! ## Bytes of words -/

/-- Words read as bytes: row `g` is byte `g % 4` of word row `g / 4`. -/
theorem bytes_apply (f : IVec S16x512 32) (g : Fin 64) (n : Fin 512) :
    bitcast S64x512 8 f bitcasts_S16x512_w32_S64x512_w8 (ix2 g n) = (f (ix2 (⟨g.val / 4, by omega⟩ : Fin 16) n)).extractLsb' (8 * (g.val % 4)) 8 := by
  apply BitVec.eq_of_getLsbD_eq
  intro q hq
  rw [bitcast_getLsbD f bitcasts_S16x512_w32_S64x512_w8 (ix2 g n) q hq (by decide), BitVec.getLsbD_extractLsb']
  have hr : S64x512.row (ix2 g n) = g.val := rfl
  have e1 : (S64x512.row (ix2 g n) * 8 + q) / 32 = g.val / 4 := by rw [hr]; omega
  have e2 : (S64x512.row (ix2 g n) * 8 + q) % 32 = 8 * (g.val % 4) + q := by rw [hr]; omega
  rw [Shape.Bitcasts.srcIdx_congr bitcasts_S16x512_w32_S64x512_w8 (ix2 g n) e1 _ (fun a ha => by
    match a with
    | ⟨0, _⟩ => show g.val / 4 < 16; omega
    | ⟨1, _⟩ => exact absurd ha (by show ¬ 1 + 2 = 2; omega)), e2]
  simp only [hq, decide_true, Bool.true_and]
  congr 2
  funext c
  match c with
  | ⟨0, _⟩ => exact Fin.ext (bitcasts_S16x512_w32_S64x512_w8.srcIdx_row _ _ _ ⟨0, Nat.zero_lt_two⟩ rfl)
  | ⟨1, _⟩ => exact Fin.ext (bitcasts_S16x512_w32_S64x512_w8.srcIdx_other _ _ _ ⟨1, Nat.one_lt_two⟩ (by show ¬ 1 + 2 = 2; omega))

/-- A byte of a word of packed rows. -/
theorem words_byte (p : Vec Ideal S1x64x512 .i8) (g : Fin 64) (n : Fin 512) :
    (words p (ix2 (⟨g.val / 4, by omega⟩ : Fin 16) n)).extractLsb' (8 * (g.val % 4)) 8 = p (ix3 (0 : Fin 1) g n) := by
  apply BitVec.eq_of_getLsbD_eq
  intro q hq
  rw [BitVec.getLsbD_extractLsb']
  unfold words
  refine (congrArg (decide (q < 8) && ·) (bitcast_8_32_getLsbD_ix2 (R := 64) (r := 16) (n := 512) _ bitcasts_S64x512_w8_S16x512_w32 (⟨g.val / 4, by omega⟩ : Fin 16) n (8 * (g.val % 4) + q) (by omega) g
    (by show g.val = 4 * (g.val / 4) + (8 * (g.val % 4) + q) / 8; omega))).trans ?_
  have e : (8 * (g.val % 4) + q) % 8 = q := by omega
  rw [e]
  simp only [hq, decide_true, Bool.true_and]
  refine congrArg (fun v : BitVec 8 => v.getLsbD q) (shapeCast_apply (s := S1x64x512) (t := S64x512) p shapeCasts_S1x64x512_S64x512 (ix2 g n) (ix3 (0 : Fin 1) g n) ?_)
  show (Shape.rowMajor _ _).val = (Shape.rowMajor _ _).val
  rw [Shape.rowMajor_val_two, Shape.rowMajor_val_three]
  show (0 * 64 + g.val) * 512 + n.val = g.val * 512 + n.val
  omega

/-! ## The scales of a tile -/

variable (x1 : Vec Ideal S3x896x512 .i8) (x2 : Vec Ideal S112x512 .i8)

/-- Either half of a scale word is the scale as a bf16 word. -/
theorem scaleWords_half (r : Fin 112) (n : Fin 512) (i : ℕ) (hi : i < 2) :
    (scaleWords x2 (ix2 r n)).extractLsb' (16 * i) 16 = (x2 (ix2 r n) : BitVec 8).setWidth 16 <<< 7 := by
  have e : scaleWords x2 (ix2 r n) = IntOp.ori (IntOp.shli .vector ((x2 (ix2 r n) : BitVec 8).setWidth 32) 7#32) (IntOp.shli .vector ((x2 (ix2 r n) : BitVec 8).setWidth 32) 23#32) := by
    unfold scaleWords
    exact shapeCast_apply (s := S112x512) (t := S112x512) _ shapeCasts_S112x512_S112x512 (ix2 r n) (ix2 r n) rfl
  rw [e]
  exact scaleWord_half _ ⟨i, hi⟩

/-- A row of scale words at an element. -/
theorem sT_apply (r : Fin 112) (n : Fin 512) : sT x2 r (ix2 (0 : Fin 1) n) = scaleWords x2 (ix2 r n) := by
  refine View.ld_unit_apply_of (Val := Elt Ideal) (e := .i32) (scaleWords x2) _ _ (inb_s r) (ix2 (0 : Fin 1) n) (ix2 r n) fun a => ?_
  match a with
  | ⟨0, _⟩ => rfl
  | ⟨1, _⟩ => exact (Nat.zero_add _).symm

/-- A row of one word row spread over rows. -/
theorem spreadRow (lo : Vec Ideal S1x512 .i32) (a : Fin 8) (n : Fin 512) :
    broadcastTo S8x512 (shapeCast S1x512 lo shapeCasts_S1x512_S1x512) broadcasts_S1x512_S8x512 (ix2 a n) = lo (ix2 (0 : Fin 1) n) := by
  refine (broadcastTo_apply (s := S1x512) (t := S8x512) _ broadcasts_S1x512_S8x512 (ix2 a n) (ix2 (0 : Fin 1) n) fun b => ?_).trans
    (shapeCast_apply (s := S1x512) (t := S1x512) lo shapeCasts_S1x512_S1x512 _ _ rfl)
  match b with
  | ⟨0, _⟩ => rfl
  | ⟨1, _⟩ => rfl

theorem slt4 : ∀ a : Fin 8, IntOp.cmpi .slt (BitVec.ofNat 32 a.val) 4#32 = if a.val < 4 then 1#1 else 0#1 := by decide

/-- The scales of a pair of blocks, spread over sixteen rows. -/
theorem pairScale_apply (lo hi : Vec Ideal S1x512 .i32) (ρ : Fin 16) (n : Fin 512) :
    (pairScale lo hi (ix2 ρ n) : EReal)
      = Ideal.ofBits .bf16 (((if ρ.val / 8 = 0 then lo else hi) (ix2 (0 : Fin 1) n) : BitVec 32).extractLsb' (16 * (ρ.val % 2)) 16) := by
  unfold pairScale
  refine congrArg (fun b : BitVec 16 => (Ideal.ofBits .bf16 b : EReal)) ?_
  rw [bitcast_32_16]
  have hr : S16x512.row (ix2 ρ n) = ρ.val := rfl
  have key : ∀ k : S8x512.Idx, (k 0).val = ρ.val / 2 → (k 1).val = n.val →
      select (cmpi .slt (iota .tc S8x512 32 [0] iota_S8x512_d0_w32) (broadcast S8x512 4#32))
        (broadcastTo S8x512 (shapeCast S1x512 lo shapeCasts_S1x512_S1x512) broadcasts_S1x512_S8x512)
        (broadcastTo S8x512 (shapeCast S1x512 hi shapeCasts_S1x512_S1x512) broadcasts_S1x512_S8x512) k
      = (if ρ.val / 8 = 0 then lo else hi) (ix2 (0 : Fin 1) n) := by
    intro k h0 h1
    obtain ⟨a, l, rfl⟩ : ∃ (a : Fin 8) (l : Fin 512), k = ix2 a l := ⟨k 0, k 1, eq_ix2 k⟩
    have h0 : a.val = ρ.val / 2 := h0
    obtain rfl : l = n := Fin.ext h1
    have hi' : iota .tc S8x512 32 [0] iota_S8x512_d0_w32 (ix2 a l) = BitVec.ofNat 32 a.val := iota_single_apply _ _ _ _ _ _
    show Scalar.select (IntOp.cmpi .slt (iota .tc S8x512 32 [0] iota_S8x512_d0_w32 (ix2 a l)) 4#32) _ _ = _
    rw [hi', slt4, spreadRow, spreadRow]
    by_cases hρ : ρ.val / 8 = 0
    · rw [if_pos (by omega), if_pos hρ, ValueIdx.select_one]
    · rw [if_neg (by omega), if_neg hρ, ValueIdx.select_zero]
  rw [key _ ((bitcasts_S8x512_w32_S16x512_w16.srcIdx_row _ _ _ ⟨0, Nat.zero_lt_two⟩ rfl).trans (by rw [hr]))
    (bitcasts_S8x512_w32_S16x512_w16.srcIdx_other _ _ _ ⟨1, Nat.one_lt_two⟩ (by show ¬ 1 + 2 = 2; omega)), hr]

/-- The block row of packed row g of tile kt. -/
def srow (kt : Fin 14) (g : Fin 64) : Fin 112 := ⟨8 * kt.val + g.val / 8, by omega⟩
/-- The packed row g of tile kt in the whole array. -/
def wrow (kt : Fin 14) (g : Fin 64) : Fin 896 := ⟨64 * kt.val + g.val, by omega⟩

/-- The scales of a tile at an element. -/
theorem tileScale_apply (kt : Fin 14) (g : Fin 64) (n : Fin 512) :
    (tileScale (sT x2) kt (ix2 g n) : EReal) = Ideal.ofBits .bf16 ((x2 (ix2 (srow kt g) n) : BitVec 8).setWidth 16 <<< 7) := by
  unfold tileScale
  refine (concat4_apply (R := 16) (T := 64) (N := 512) _ _ _ _ concatenates_S16x512_S16x512_S16x512_S16x512_S64x512_d0 ⟨g.val / 16, by omega⟩ ⟨g.val % 16, by omega⟩ n g
    (by show g.val = 16 * (g.val / 16) + g.val % 16; omega)).trans ?_
  have fin (p : ℕ) (hp : g.val / 16 = p) (lo hi : Fin 112) (hlo : lo.val = 8 * kt.val + 2 * p) (hhi : hi.val = 8 * kt.val + 2 * p + 1) :
      (pairScale (sT x2 lo) (sT x2 hi) (ix2 (⟨g.val % 16, by omega⟩ : Fin 16) n) : EReal) = Ideal.ofBits .bf16 ((x2 (ix2 (srow kt g) n) : BitVec 8).setWidth 16 <<< 7) := by
    rw [pairScale_apply]
    by_cases h : g.val % 16 / 8 = 0
    · rw [if_pos h, sT_apply, scaleWords_half _ _ _ _ (by omega)]
      have : lo = srow kt g := Fin.ext (by show lo.val = 8 * kt.val + g.val / 8; omega)
      rw [this]
    · rw [if_neg h, sT_apply, scaleWords_half _ _ _ _ (by omega)]
      have : hi = srow kt g := Fin.ext (by show hi.val = 8 * kt.val + g.val / 8; omega)
      rw [this]
  have h4 : g.val / 16 < 4 := by omega
  generalize hq : (⟨g.val / 16, by omega⟩ : Fin 4) = q
  have hq' : g.val / 16 = q.val := congrArg Fin.val hq
  match q, hq' with
  | 0, hq' => exact fin 0 hq' _ _ rfl rfl
  | 1, hq' => exact fin 1 hq' _ _ rfl rfl
  | 2, hq' => exact fin 2 hq' _ _ rfl rfl
  | 3, hq' => exact fin 3 hq' _ _ rfl rfl

/-! ## A decoded tile -/

/-- A byte plane of a tile at an element. -/
theorem wT_apply (b : Fin 3) (kt : Fin 14) (g : Fin 64) (n : Fin 512) : wT x1 b kt (ix3 (0 : Fin 1) g n) = x1 (ix3 b (wrow kt g) n) := by
  refine View.ld_unit_apply_of (Val := Elt Ideal) (e := .i8) x1 _ _ (inb_w b kt) (ix3 (0 : Fin 1) g n) (ix3 b (wrow kt g) n) fun a => ?_
  match a with
  | ⟨0, _⟩ => rfl
  | ⟨1, _⟩ => rfl
  | ⟨2, _⟩ => exact (Nat.zero_add _).symm

/-- The 6-bit code of field `j` of packed row `G`. -/
def wcode (j : Fin 4) (G : Fin 896) (n : Fin 512) : BitVec 6 := code6 j (x1 (ix3 (0 : Fin 3) G n)) (x1 (ix3 (1 : Fin 3) G n)) (x1 (ix3 (2 : Fin 3) G n))

/-- A field read as floats and scaled, at an element. -/
theorem decoded_apply (f : IVec S16x512 32) (s : FVec Ideal S64x512 .bf16) (g : Fin 64) (n : Fin 512) :
    (decoded f s (ix2 g n) : EReal) = Ideal.ofBits .fp8e4m3 ((f (ix2 (⟨g.val / 4, by omega⟩ : Fin 16) n)).extractLsb' (8 * (g.val % 4)) 8) * (s (ix2 g n) : EReal) := by
  have e : (decoded f s (ix2 g n) : EReal) = Ideal.ofBits .fp8e4m3 (bitcast S64x512 8 f bitcasts_S16x512_w32_S64x512_w8 (ix2 g n)) * (s (ix2 g n) : EReal) := rfl
  rw [e, bytes_apply]

/-- The decoded weight tile at an element. -/
theorem tileW_apply (kt : Fin 14) (j : Fin 4) (g : Fin 64) (n : Fin 512) (κ : Fin 256) (hκ : κ.val = 64 * j.val + g.val) :
    (tileW (words (wT x1 0 kt)) (words (wT x1 1 kt)) (words (wT x1 2 kt)) (tileScale (sT x2) kt) (ix2 κ n) : EReal)
      = Ideal.ofBits .fp8e4m3 (spread (wcode x1 j (wrow kt g) n)) * Ideal.ofBits .bf16 ((x2 (ix2 (srow kt g) n) : BitVec 8).setWidth 16 <<< 7) := by
  unfold tileW
  refine (concat4_apply (R := 64) (T := 256) (N := 512) _ _ _ _ concatenates_S64x512_S64x512_S64x512_S64x512_S256x512_d0 j g n κ hκ).trans ?_
  have hb (b : Fin 3) : (words (wT x1 b kt) (ix2 (⟨g.val / 4, by omega⟩ : Fin 16) n)).extractLsb' (8 * (g.val % 4)) 8 = x1 (ix3 b (wrow kt g) n) := by
    rw [words_byte, wT_apply]
  have h4 : g.val % 4 < 4 := by omega
  fin_cases j
  · refine (decoded_apply _ _ g n).trans (congrArg₂ (fun u v : EReal => u * v) (congrArg _ ?_) (tileScale_apply x2 kt g n))
    refine (word0_byte _ ⟨g.val % 4, h4⟩).trans ?_
    exact congrArg spread (congrArg (fun b => code6 0 b 0 0) (hb 0))
  · refine (decoded_apply _ _ g n).trans (congrArg₂ (fun u v : EReal => u * v) (congrArg _ ?_) (tileScale_apply x2 kt g n))
    refine (word1_byte _ _ ⟨g.val % 4, h4⟩).trans ?_
    exact congrArg spread (congrArg₂ (fun b b' => code6 1 b b' 0) (hb 0) (hb 1))
  · refine (decoded_apply _ _ g n).trans (congrArg₂ (fun u v : EReal => u * v) (congrArg _ ?_) (tileScale_apply x2 kt g n))
    refine (word2_byte _ _ ⟨g.val % 4, h4⟩).trans ?_
    exact congrArg spread (congrArg₂ (fun b b' => code6 2 0 b b') (hb 1) (hb 2))
  · refine (decoded_apply _ _ g n).trans (congrArg₂ (fun u v : EReal => u * v) (congrArg _ ?_) (tileScale_apply x2 kt g n))
    refine (word3_byte _ ⟨g.val % 4, h4⟩).trans ?_
    exact congrArg spread (congrArg (fun b => code6 3 0 0 b) (hb 2))

/-- A decoded and scaled weight of the tile: the code's value over 64, by the scale. -/
theorem tileW_value (kt : Fin 14) (j : Fin 4) (g : Fin 64) (n : Fin 512) (κ : Fin 256) (hκ : κ.val = 64 * j.val + g.val)
    (h1 : 1 ≤ (x2 (ix2 (srow kt g) n) : BitVec 8).toNat) (h2 : (x2 (ix2 (srow kt g) n) : BitVec 8).toNat ≤ 254) :
    (tileW (words (wT x1 0 kt)) (words (wT x1 1 kt)) (words (wT x1 2 kt)) (tileScale (sT x2) kt) (ix2 κ n) : EReal)
      = (((eighths (wcode x1 j (wrow kt g) n) : ℝ) / 512 : ℝ) : EReal) * p2 (((x2 (ix2 (srow kt g) n) : BitVec 8).toNat : ℤ) - 127) := by
  rw [tileW_apply x1 x2 kt j g n κ hκ, fp8_spread, bf16_scale _ h1 h2]

end Cert.KernelIdeal.Body

end
-- ==== Proof.Math.Product.lean ====
/- The product's sum: over tiles of 4 × 64 rows, and over the four fields of 896 packed rows. Finite sums only. -/
module

public import proofs.«01_k».proof.Proof.Math.Weights

@[expose] public section

noncomputable section

namespace Cert.Mx

open Idealize.ShloMosaic

/-- A sum times 64, term by term (no term need be finite). -/
theorem sum_mul_64 {ι : Type} (s : Finset ι) (f : ι → EReal) : (∑ i ∈ s, f i) * ((64 : ℝ) : EReal) = ∑ i ∈ s, f i * ((64 : ℝ) : EReal) := by
  classical
  have h0 : (0 : EReal) ≤ ((64 : ℝ) : EReal) := by exact_mod_cast (by norm_num : (0 : ℝ) ≤ 64)
  induction s using Finset.induction_on with
  | empty => simp
  | insert a s ha ih =>
    rw [Finset.sum_insert ha, Finset.sum_insert ha, EReal.right_distrib_of_nonneg_of_ne_top h0 (EReal.coe_ne_top _), ih]

/-- Row `64 j + g` of a tile; packed row `64 kt + g`; row `4 G + j` of the unpacked weights. -/
def kap (j : Fin 4) (g : Fin 64) : Fin 256 := ⟨64 * j.val + g.val, by omega⟩
/-- Packed row g of tile kt. -/
def prow (kt : Fin 14) (g : Fin 64) : Fin 896 := ⟨64 * kt.val + g.val, by omega⟩
/-- Row j of packed row G, unpacked. -/
def urow (G : Fin 896) (j : Fin 4) : Fin 3584 := ⟨4 * G.val + j.val, by omega⟩
/-- The block of packed row G. -/
def sblk (G : Fin 896) : Fin 112 := ⟨G.val / 8, by omega⟩

/-- A sum over a tile, by field and packed row. -/
theorem sum_kap (f : Fin 256 → EReal) : ∑ κ, f κ = ∑ j, ∑ g, f (kap j g) := by
  rw [← Fintype.sum_prod_type', ← Equiv.sum_comp (finProdFinEquiv : Fin 4 × Fin 64 ≃ Fin 256)]
  refine Finset.sum_congr rfl fun p _ => congrArg f (Fin.ext ?_)
  show p.2.val + 64 * p.1.val = 64 * p.1.val + p.2.val
  omega
/-- A sum over all packed rows, by tile. -/
theorem sum_prow (f : Fin 896 → EReal) : ∑ G, f G = ∑ kt, ∑ g, f (prow kt g) := by
  rw [← Fintype.sum_prod_type', ← Equiv.sum_comp (finProdFinEquiv : Fin 14 × Fin 64 ≃ Fin 896)]
  refine Finset.sum_congr rfl fun p _ => congrArg f (Fin.ext ?_)
  show p.2.val + 64 * p.1.val = 64 * p.1.val + p.2.val
  omega

/-- An element of the product: `D` a row of dequantised `x`, `code j G` the 6-bit codes and `u` the scale bytes of a column. -/
def yX (D : Fin 3584 → EReal) (code : Fin 4 → Fin 896 → BitVec 6) (u : Fin 112 → BitVec 8) : EReal :=
  ∑ j : Fin 4, ∑ G : Fin 896, D (urow G j) * ((((eighths (code j G) : ℝ) / 8 : ℝ) : EReal) * p2 (((u (sblk G)).toNat : ℤ) - 127))

/-- The tiled sum, its weights 64 times too small, is the product. -/
theorem tiled_eq (D : Fin 3584 → EReal) (code : Fin 4 → Fin 896 → BitVec 6) (u : Fin 112 → BitVec 8) (T : Fin 14 → Fin 256 → EReal)
    (hT : ∀ kt j g, T kt (kap j g)
      = D (urow (prow kt g) j) * ((((eighths (code j (prow kt g)) : ℝ) / 512 : ℝ) : EReal) * p2 (((u (sblk (prow kt g))).toNat : ℤ) - 127))) :
    (∑ kt, ∑ κ, T kt κ) * ((64 : ℝ) : EReal) = yX D code u := by
  have e1 : ∑ kt, ∑ κ, T kt κ = ∑ j, ∑ kt, ∑ g, T kt (kap j g) := by
    rw [Finset.sum_congr rfl fun kt _ => sum_kap (T kt)]
    exact Finset.sum_comm
  rw [e1, sum_mul_64]
  unfold yX
  refine Finset.sum_congr rfl fun j _ => ?_
  rw [sum_prow, sum_mul_64]
  refine Finset.sum_congr rfl fun kt _ => ?_
  rw [sum_mul_64]
  refine Finset.sum_congr rfl fun g _ => ?_
  rw [hT, mul_assoc, mul_assoc, mul_comm (p2 _), ← mul_assoc ((((eighths _ : ℝ) / 512 : ℝ) : EReal)), ← EReal.coe_mul]
  congr 3
  ring

end Cert.Mx

end
-- ==== Proof.Body.YValue.lean ====
/- A block of `y` read at an element, at the ideal values. -/
module

public import proofs.«01_k».proof.Proof.Body.XValue
public import proofs.«01_k».proof.Proof.Body.WValue
public import proofs.«01_k».proof.Proof.Math.Product

@[expose] public section

set_option maxRecDepth 16384

noncomputable section

namespace Cert.KernelIdeal.Body

open Cert.KernelIdeal.Gen Idealize.ShloMosaic.TcCoe
open Idealize.ShloMosaic hiding ix2 ix3 eq_ix2
open Idealize.ShloMosaic.ValueIdx (ix2 ix3 eq_ix2)
open Cert.Mx

variable (xp : Vec Ideal S256x3584 .bf16) (x1 : Vec Ideal S3x896x512 .i8) (x2 : Vec Ideal S112x512 .i8)

/-- The constant 64. -/
theorem bits_64 : Ideal.ofBits .f32 0x42800000#32 = ((64 : ℝ) : EReal) := by
  simp [Ideal.ofBits, Ideal.ieee]; norm_num [← EReal.coe_mul]

/-- A tile of the operand at an element. -/
theorem xpT_apply (kt : Fin 14) (r : Fin 256) (κ : Fin 256) : (xpT xp kt (ix2 r κ) : EReal) = xp (ix2 r (tcol kt κ)) := by
  refine View.ld_unit_apply_of (Val := Elt Ideal) (e := .bf16) xp _ _ (inb_x kt) (ix2 r κ) (ix2 r (tcol kt κ)) fun a => ?_
  match a with
  | ⟨0, _⟩ => exact (Nat.zero_add _).symm
  | ⟨1, _⟩ => rfl

/-- A decoded tile of the weights. -/
def wTile (kt : Fin 14) : FVec Ideal S256x512 .bf16 :=
  tileW (words (wT x1 0 kt)) (words (wT x1 1 kt)) (words (wT x1 2 kt)) (tileScale (sT x2) kt)

/-- The accumulator after k tiles. -/
theorem accY_apply (r : Fin 256) (n : Fin 512) : ∀ (k : ℕ) (h : k ≤ 14),
    (accY (xpT xp) (wT x1) (sT x2) k h (ix2 r n) : EReal)
      = ∑ i : Fin k, ∑ κ : Fin 256, (xp (ix2 r (tcol ⟨i.val, by omega⟩ κ)) : EReal) * (wTile x1 x2 ⟨i.val, by omega⟩ (ix2 κ n) : EReal)
  | 0, _ => Ideal.ofBits_zero_f32
  | k + 1, h => by
    have ih := accY_apply r n k (Nat.le_of_succ_le h)
    rw [Fin.sum_univ_castSucc]
    refine congrArg₂ (fun u v : EReal => u + v) ih ?_
    refine (Ideal.matmul_plain_apply (M := 256) (K := 256) (N := 512) (φ₁ := .bf16) (φ₂ := .bf16) none _ _ _ r n).trans ?_
    refine (congrArg (· + _) (show Ideal.ofBits .f32 0x00000000#32 = 0 from Ideal.ofBits_zero_f32)).trans ((zero_add _).trans ?_)
    exact Finset.sum_congr rfl fun κ _ => congrArg (fun u : EReal => u * (wTile x1 x2 ⟨k, h⟩ (ix2 κ n) : EReal)) (xpT_apply xp ⟨k, h⟩ r κ)

/-- The block of `y` is the product, where the scale bytes are powers of two. -/
theorem yV_apply (D : Fin 256 → Fin 3584 → EReal) (hx : ∀ r c, (xp (ix2 r c) : EReal) = D r (permCol c)) (r : Fin 256) (n : Fin 512)
    (hu : ∀ s, 1 ≤ (x2 (ix2 s n) : BitVec 8).toNat ∧ (x2 (ix2 s n) : BitVec 8).toNat ≤ 254) :
    (yV xp x1 x2 (ix2 r n) : EReal) = yX (D r) (fun j G => wcode x1 j G n) (fun s => x2 (ix2 s n)) := by
  have e : (yV xp x1 x2 (ix2 r n) : EReal) = (accY (xpT xp) (wT x1) (sT x2) 14 le_rfl (ix2 r n) : EReal) * Ideal.ofBits .f32 0x42800000#32 := rfl
  rw [e, accY_apply, bits_64]
  refine tiled_eq (D r) _ _ (fun kt κ => (xp (ix2 r (tcol kt κ)) : EReal) * (wTile x1 x2 kt (ix2 κ n) : EReal)) fun kt j g => ?_
  have hw := tileW_value x1 x2 kt j g n (kap j g) rfl (hu _).1 (hu _).2
  have hs : sblk (prow kt g) = srow kt g := Fin.ext (by show (64 * kt.val + g.val) / 8 = 8 * kt.val + g.val / 8; omega)
  have hc : permCol (tcol kt (kap j g)) = urow (prow kt g) j := Fin.ext (by
    show 256 * ((256 * kt.val + (64 * j.val + g.val)) / 256) + (4 * ((256 * kt.val + (64 * j.val + g.val)) % 256 % 64) + (256 * kt.val + (64 * j.val + g.val)) % 256 / 64)
      = 4 * (64 * kt.val + g.val) + j.val
    omega)
  rw [hs]
  exact congrArg₂ (fun u v : EReal => u * v) ((hx r _).trans (congrArg (D r) hc)) hw

end Cert.KernelIdeal.Body

end
-- ==== Proof.Ref.XValue.lean ====
/- The reference's codes, scales and dequantised `x`, read at an element, at the ideal values. -/
module

public import proofs.«01_k».proof.Proof.Gen.ReferenceIdeal.Value
public import proofs.«01_k».proof.Proof.Math.Quant
public import proofs.«01_k».proof.Proof.Math.Product
public import Idealize.ShloMosaic.Lib.Pipeline.ValueKit.Tiles
public import Idealize.ShloMosaic.PureOps.Ideal.Laws

@[expose] public section

set_option maxRecDepth 16384

noncomputable section

namespace Cert.ReferenceIdeal.Read

open Cert.ReferenceIdeal Cert.ReferenceIdeal.Gen Idealize.ShloMosaic Idealize.ShloMosaic.TcCoe
open Idealize.ShloMosaic.ValueIdx (ix2 ix3 eq_ix2)
open Cert.Mx

variable (a0 : Vec Ideal S1x256x3584 .bf16)

/-- `x` by row and column. -/
def rows : Fin 256 → Fin 3584 → EReal := fun r c => a0 (ix3 (0 : Fin 1) r c)

/-- x in blocks, at an element. -/
theorem pay2_apply (r : Fin 256) (b : Fin 112) (k : Fin 32) : (k0_pay2 a0 (ix3 r b k) : EReal) = rows a0 r (col b k) := by
  refine shapeCast_apply (s := S1x256x3584) (t := S256x112x32) _ shapeCasts_S1x256x3584_S256x112x32 (ix3 r b k) (ix3 (0 : Fin 1) r (col b k)) ?_
  rw [Shape.rowMajor_val_three, Shape.rowMajor_val_three]
  show (0 * 256 + r.val) * 3584 + (32 * b.val + k.val) = (r.val * 112 + b.val) * 32 + k.val
  omega

/-- The word of minus infinity. -/
theorem ninf : Ideal.ofBits .f32 0xFF800000#32 = ⊥ := by simp [Ideal.ofBits, Ideal.ieee]

/-- The block maxima. -/
def amaxV : FVec Ideal S256x112 .f32 :=
  multiReduction .maximumf [2] S256x112 (absf (k0_pay2 a0)) 0xFF800000#32 reduces_S256x112x32_S256x112 (.inl rfl) rfl

/-- The block maxima at an element. -/
theorem amaxV_apply (r : Fin 256) (b : Fin 112) : (amaxV a0 (ix2 r b) : EReal) = amax (rows a0) r b := by
  unfold amaxV amax
  refine (Ideal.multiReduction_maximumf_single (s := S256x112x32) (t := S256x112) (a := 2) _ _ reduces_S256x112x32_S256x112 _ _ (ix2 r b)).trans ?_
  rw [show (FloatOps.ofBits (F := Ideal) .f32 0xFF800000#32 : EReal) = ⊥ from ninf]
  refine Finset.fold_congr (s := (Finset.univ : Finset (Fin 32))) fun k _ => ?_
  have e : (reduces_S256x112x32_S256x112).lift (ix2 r b) k = ix3 r b k := by
    funext c; apply Fin.ext
    match c with
    | ⟨0, _⟩ => rfl
    | ⟨1, _⟩ => rfl
    | ⟨2, _⟩ => rfl
  show max (k0_pay2 a0 ((reduces_S256x112x32_S256x112).lift (ix2 r b) k) : EReal) (-(k0_pay2 a0 ((reduces_S256x112x32_S256x112).lift (ix2 r b) k) : EReal)) = _
  rw [e, pay2_apply]

/-- The exponents compared: `iota - 126`. -/
def exps : IVec S256x112x254 32 := subi (iota .tc S256x112x254 32 [2] iota_S256x112x254_d2_w32) (broadcast S256x112x254 126#32)
/-- The exponents tried. -/
theorem exps_apply (r : Fin 256) (b : Fin 112) (k : Fin 254) : exps (ix3 r b k) = BitVec.ofInt 32 ((k.val : ℤ) - 126) := by
  have h : iota .tc S256x112x254 32 [2] iota_S256x112x254_d2_w32 (ix3 r b k) = BitVec.ofNat 32 k.val := iota_single_apply _ _ _ _ _ _
  show iota .tc S256x112x254 32 [2] iota_S256x112x254_d2_w32 (ix3 r b k) - 126#32 = _
  rw [h, ofInt_sub, BitVec.ofInt_natCast]; rfl

/-- What the greatest exponent is taken over. -/
def cands : FVec Ideal S256x112x254 .f32 :=
  select (cmpf .oge (broadcastTo S256x112x254 (shapeCast S256x112x1 (amaxV a0) shapeCasts_S256x112_S256x112x1) broadcasts_S256x112x1_S256x112x254)
      (exp2 (sitofp .f32 exps))) (sitofp .f32 exps) (broadcast S256x112x254 (Scalar.ofBits .f32 0xC2FE0000#32 : Ideal .f32))
/-- The constant -127. -/
theorem m127 : Ideal.ofBits .f32 0xC2FE0000#32 = (((-127 : ℤ) : ℝ) : EReal) := by
  simp [Ideal.ofBits, Ideal.ieee]; norm_num [← EReal.coe_mul]

theorem col1_apply (v : FVec Ideal S256x112 .f32) (r : Fin 256) (b : Fin 112) :
    shapeCast S256x112x1 v shapeCasts_S256x112_S256x112x1 (ix3 r b (0 : Fin 1)) = v (ix2 r b) := by
  refine shapeCast_apply (s := S256x112) (t := S256x112x1) _ shapeCasts_S256x112_S256x112x1 (ix3 r b (0 : Fin 1)) (ix2 r b) ?_
  rw [Shape.rowMajor_val_three, Shape.rowMajor_val_two]
  show r.val * 112 + b.val = (r.val * 112 + b.val) * 1 + 0
  omega

theorem cand_of (v : FVec Ideal S256x112x254 .f32) (e : IVec S256x112x254 32) (z : Ideal .f32) (i : S256x112x254.Idx) :
    (select (cmpf .oge v (exp2 (sitofp (F := Ideal) .f32 e))) (sitofp (F := Ideal) .f32 e) (broadcast S256x112x254 z) : FVec Ideal S256x112x254 .f32) i
      = Scalar.select (Ideal.cmp .oge (v i) (Ideal.exp2 (((e i).toInt : ℝ) : EReal))) (((e i).toInt : ℝ) : EReal) z := rfl

/-- The exponents that fit, at an element. -/
theorem cands_apply (r : Fin 256) (b : Fin 112) (k : Fin 254) : (cands a0 (ix3 r b k) : EReal)
    = if p2 ((k.val : ℤ) - 126) ≤ amax (rows a0) r b then ((((k.val : ℤ) - 126 : ℤ) : ℝ) : EReal) else (((-127 : ℤ) : ℝ) : EReal) := by
  have hb : broadcastTo S256x112x254 (shapeCast S256x112x1 (amaxV a0) shapeCasts_S256x112_S256x112x1) broadcasts_S256x112x1_S256x112x254 (ix3 r b k)
      = amaxV a0 (ix2 r b) := by
    refine (broadcastTo_apply (s := S256x112x1) (t := S256x112x254) _ broadcasts_S256x112x1_S256x112x254 (ix3 r b k) (ix3 r b (0 : Fin 1)) fun a => ?_).trans (col1_apply _ r b)
    match a with
    | ⟨0, _⟩ => rfl
    | ⟨1, _⟩ => rfl
    | ⟨2, _⟩ => rfl
  refine (cand_of _ exps _ (ix3 r b k)).trans ?_
  rw [hb, amaxV_apply, exps_apply, ofInt_toInt _ (by omega) (by omega), exp2_int, show (Scalar.ofBits .f32 0xC2FE0000#32 : Ideal .f32) = _ from m127]
  show (if BitVec.ofBool (decide (p2 ((k.val : ℤ) - 126) ≤ amax (rows a0) r b)) = 1#1 then _ else _) = _
  by_cases h : p2 ((k.val : ℤ) - 126) ≤ amax (rows a0) r b
  · rw [if_pos h, decide_eq_true h]; rfl
  · rw [if_neg h, decide_eq_false h]; rfl

/-- A maximum over the last axis at an element. -/
theorem rowMax (src : FVec Ideal S256x112x254 .f32) (r : Fin 256) (b : Fin 112) :
    (multiReduction .maximumf [2] S256x112 src 0xFF800000#32 reduces_S256x112x254_S256x112 (.inl rfl) rfl (ix2 r b) : EReal)
      = (Finset.univ : Finset (Fin 254)).fold max ⊥ fun k => src (ix3 r b k) := by
  refine (Ideal.multiReduction_maximumf_single (s := S256x112x254) (t := S256x112) (a := 2) _ _ reduces_S256x112x254_S256x112 _ _ (ix2 r b)).trans ?_
  rw [show (FloatOps.ofBits (F := Ideal) .f32 0xFF800000#32 : EReal) = ⊥ from ninf]
  refine Finset.fold_congr (s := (Finset.univ : Finset (Fin 254))) fun k _ => ?_
  have e : (reduces_S256x112x254_S256x112).lift (ix2 r b) k = ix3 r b k := by
    funext c; apply Fin.ext
    match c with
    | ⟨0, _⟩ => rfl
    | ⟨1, _⟩ => rfl
    | ⟨2, _⟩ => rfl
  exact congrArg src e

/-- The greatest exponent that fits. -/
def foldV : FVec Ideal S256x112 .f32 :=
  multiReduction .maximumf [2] S256x112 (cands a0) 0xFF800000#32 reduces_S256x112x254_S256x112 (.inl rfl) rfl
/-- The greatest exponent that fits, at an element. -/
theorem foldV_apply (r : Fin 256) (b : Fin 112) : (foldV a0 (ix2 r b) : EReal) = rfold (amax (rows a0) r b) := by
  unfold foldV rfold
  refine (rowMax (cands a0) r b).trans ?_
  exact Finset.fold_congr fun k _ => cands_apply a0 r b k

theorem sx_of (a f : FVec Ideal S256x112 .f32) (i : S256x112.Idx) :
    select (cmpf .oeq a (broadcast S256x112 (Scalar.ofBits .f32 0x00000000#32 : Ideal .f32))) (broadcast S256x112 0#32) (subi (addi (fptosi 32 f) (broadcast S256x112 1#32)) (broadcast S256x112 3#32)) i
      = Scalar.select (Ideal.cmp .oeq (a i) (Ideal.ofBits .f32 0x00000000#32)) 0#32 (Ideal.fptosi 32 (f i) + 1#32 - 3#32) := rfl
theorem sx_eq : k0_pay3 a0 = select (cmpf .oeq (amaxV a0) (broadcast S256x112 (Scalar.ofBits .f32 0x00000000#32 : Ideal .f32))) (broadcast S256x112 0#32)
    (subi (addi (fptosi 32 (foldV a0)) (broadcast S256x112 1#32)) (broadcast S256x112 3#32)) := by
  unfold k0_pay3 foldV cands amaxV exps; rfl

/-- The scale exponents at an element. -/
theorem sx_apply (r : Fin 256) (b : Fin 112) : k0_pay3 a0 (ix2 r b) = rsx (amax (rows a0) r b) := by
  rw [sx_eq, sx_of, amaxV_apply, foldV_apply, Ideal.ofBits_zero_f32]
  rfl

variable (hN : ∀ r b, Normal (amax (rows a0) r b))
include hN

/-- `x` scaled. -/
theorem pay4_apply (r : Fin 256) (b : Fin 112) (k : Fin 32) : (k0_pay4 a0 (ix3 r b k) : EReal) = rows a0 r (col b k) * invE (amax (rows a0) r b) := by
  have e : (k0_pay4 a0 (ix3 r b k) : EReal) = (k0_pay2 a0 (ix3 r b k) : EReal)
      * (broadcastTo S256x112x32 (shapeCast S256x112x1 (exp2 (sitofp (F := Ideal) .f32 (subi (broadcast S256x112 0#32) (k0_pay3 a0)))) shapeCasts_S256x112_S256x112x1) broadcasts_S256x112x1_S256x112x32 (ix3 r b k) : EReal) := rfl
  rw [e, pay2_apply]
  refine congrArg (rows a0 r (col b k) * ·) ?_
  refine (broadcastTo_apply (s := S256x112x1) (t := S256x112x32) _ broadcasts_S256x112x1_S256x112x32 (ix3 r b k) (ix3 r b (0 : Fin 1)) fun a => ?_).trans ((col1_apply _ r b).trans ?_)
  · match a with
    | ⟨0, _⟩ => rfl
    | ⟨1, _⟩ => rfl
    | ⟨2, _⟩ => rfl
  · show Ideal.exp2 ((((0#32 - k0_pay3 a0 (ix2 r b)).toInt : ℝ) : EReal)) = _
    rw [sx_apply, (hN r b).rinv]

omit hN in
theorem code_of (r : Fin 256) (b : Fin 112) (k : Fin 32) : (k0_pay6 (k0_pay4 a0) (k0_pay5 a0) (ix2 r (col b k)) : EReal) = codeE (k0_pay4 a0 (ix3 r b k)) := by
  unfold k0_pay6
  refine (shapeCast_apply (s := S256x112x32) (t := S256x3584) _ shapeCasts_S256x112x32_S256x3584 (ix2 r (col b k)) (ix3 r b k) ?_).trans ?_
  · rw [Shape.rowMajor_val_three, Shape.rowMajor_val_two]
    show (r.val * 112 + b.val) * 32 + k.val = r.val * 3584 + (32 * b.val + k.val)
    omega
  · have e (v : EReal) : codeE v = min (Ideal.ofBits .f32 0x40F00000#32) (max (Ideal.ofBits .f32 0xC0F00000#32)
        (Ideal.liftRound Ideal.roundHalfEven (v * Ideal.div (Ideal.ofBits .f32 0x3F800000#32) (quantum v)) * quantum v)) := by
      rw [div_quantum]; rfl
    rw [e]; rfl

theorem codes_col (r : Fin 256) (b : Fin 112) (k : Fin 32) :
    (k0_pay6 (k0_pay4 a0) (k0_pay5 a0) (ix2 r (col b k)) : EReal) = codeX (rows a0) r (col b k) := by
  rw [code_of, pay4_apply a0 hN]
  have hb : blk (col b k) = b := Fin.ext (by show (32 * b.val + k.val) / 32 = b.val; omega)
  unfold codeX
  rw [hb]

/-- The codes. -/
theorem codes_apply (r : Fin 256) (c : Fin 3584) : (k0_pay6 (k0_pay4 a0) (k0_pay5 a0) (ix2 r c) : EReal) = codeX (rows a0) r c := by
  have hc : c = col (blk c) ⟨c.val % 32, by omega⟩ := Fin.ext (by show c.val = 32 * (c.val / 32) + c.val % 32; omega)
  rw [hc]; exact codes_col a0 hN _ _ _

/-- The scales. -/
theorem scales_apply (r : Fin 256) (b : Fin 112) : k0_pay7 (k0_pay3 a0) (ix2 r b) = BitVec.ofNat 8 (byteN (amax (rows a0) r b)) := by
  show (k0_pay3 a0 (ix2 r b) + 127#32).setWidth 8 = _
  rw [sx_apply, (hN r b).rbyte]

theorem deq_col (r : Fin 256) (b : Fin 112) (k : Fin 32) :
    (mulf (F := Ideal) (φ := .bf16) (shapeCast S256x112x32 (extf .bf16 (k0_pay6 (k0_pay4 a0) (k0_pay5 a0)) bitsLt_fp8e4m3_bf16) shapeCasts_S256x3584_S256x112x32)
      (broadcastTo S256x112x32 (shapeCast S256x112x1 (truncf .bf16 (exp2 (sitofp (F := Ideal) .f32 (subi (extui 32 (k0_pay7 (k0_pay3 a0)) natLt_8_32) (broadcast S256x112 127#32)))) bitsLt_bf16_f32)
        shapeCasts_S256x112_S256x112x1) broadcasts_S256x112x1_S256x112x32) (ix3 r b k) : EReal) = deqX (rows a0) r (col b k) := by
  have hb : blk (col b k) = b := Fin.ext (by show (32 * b.val + k.val) / 32 = b.val; omega)
  refine congrArg₂ (fun u v : EReal => u * v) ?_ ?_
  · refine (shapeCast_apply (s := S256x3584) (t := S256x112x32) _ shapeCasts_S256x3584_S256x112x32 (ix3 r b k) (ix2 r (col b k)) ?_).trans (codes_col a0 hN r b k)
    rw [Shape.rowMajor_val_three, Shape.rowMajor_val_two]
    show r.val * 3584 + (32 * b.val + k.val) = (r.val * 112 + b.val) * 32 + k.val
    omega
  · refine (broadcastTo_apply (s := S256x112x1) (t := S256x112x32) _ broadcasts_S256x112x1_S256x112x32 (ix3 r b k) (ix3 r b (0 : Fin 1)) fun a => ?_).trans ?_
    · match a with
      | ⟨0, _⟩ => rfl
      | ⟨1, _⟩ => rfl
      | ⟨2, _⟩ => rfl
    refine (col1_apply (exp2 (sitofp (F := Ideal) .f32 (subi (extui 32 (k0_pay7 (k0_pay3 a0)) natLt_8_32) (broadcast S256x112 127#32)))) r b).trans ?_
    show Ideal.exp2 (((((k0_pay7 (k0_pay3 a0) (ix2 r b)).setWidth 32 - 127#32).toInt : ℝ) : EReal)) = _
    have hbd := (hN r b).byte_bounds
    rw [scales_apply a0 hN, byteScale _ (by omega), hb]
    rfl

/-- Dequantised `x`, a column `4 G + j` at `(G, j)`. -/
theorem deq_apply (r : Fin 256) (G : Fin 896) (j : Fin 4) :
    (k0_pay8 (k0_pay3 a0) (k0_pay4 a0) (k0_pay5 a0) (ix3 r G j) : EReal) = deqX (rows a0) r (urow G j) := by
  refine (shapeCast_apply (s := S256x112x32) (t := S256x896x4) _ shapeCasts_S256x112x32_S256x896x4 (ix3 r G j)
    (ix3 r (⟨G.val / 8, by omega⟩ : Fin 112) (⟨4 * (G.val % 8) + j.val, by omega⟩ : Fin 32)) ?_).trans ((deq_col a0 hN _ _ _).trans (congrArg (deqX (rows a0) r) (Fin.ext ?_)))
  · rw [Shape.rowMajor_val_three, Shape.rowMajor_val_three]
    show (r.val * 112 + G.val / 8) * 32 + (4 * (G.val % 8) + j.val) = (r.val * 896 + G.val) * 4 + j.val
    omega
  · show 32 * (G.val / 8) + (4 * (G.val % 8) + j.val) = 4 * G.val + j.val
    omega

end Cert.ReferenceIdeal.Read

end
-- ==== Proof.Ref.YValue.lean ====
/- The reference's product, read at an element, at the ideal values. -/
module

public import proofs.«01_k».proof.Proof.Ref.XValue
public import Idealize.ShloMosaic.Lib.MatmulPlain

@[expose] public section

set_option maxRecDepth 16384

noncomputable section

namespace Cert.ReferenceIdeal.Read

open Cert.ReferenceIdeal Cert.ReferenceIdeal.Gen Idealize.ShloMosaic Idealize.ShloMosaic.TcCoe
open Idealize.ShloMosaic.ValueIdx (ix2 ix3 eq_ix2)
open Cert.Mx

/-! ## The weights -/

/-- The 6-bit code of field `j` of packed row `G`, column `N`. -/
def wcode (a1 : Vec Ideal S3x896x18944 .i8) (j : Fin 4) (G : Fin 896) (N : Fin 18944) : BitVec 6 :=
  code6 j (a1 (ix3 (0 : Fin 3) G N)) (a1 (ix3 (1 : Fin 3) G N)) (a1 (ix3 (2 : Fin 3) G N))

variable (a1 : Vec Ideal S3x896x18944 .i8)

/-- One byte plane at an element. -/
theorem plane_apply {α : Type} (p : Fin 3) (h : S3x896x18944.Slices ![p.val, 0, 0] S1x896x18944) (v : S3x896x18944.Idx → α) (G : Fin 896) (N : Fin 18944) :
    shapeCast S896x18944 (extractStridedSlice S1x896x18944 ![p.val, 0, 0] v h) shapeCasts_S1x896x18944_S896x18944 (ix2 G N) = v (ix3 p G N) := by
  refine (shapeCast_apply (s := S1x896x18944) (t := S896x18944) _ shapeCasts_S1x896x18944_S896x18944 (ix2 G N) (ix3 (0 : Fin 1) G N) ?_).trans ?_
  · rw [Shape.rowMajor_val_three, Shape.rowMajor_val_two]
    show (0 * 896 + G.val) * 18944 + N.val = G.val * 18944 + N.val
    omega
  · refine extractStridedSlice_apply (s := S3x896x18944) (t := S1x896x18944) _ v h (ix3 (0 : Fin 1) G N) (ix3 p G N) fun a => ?_
    match a with
    | ⟨0, _⟩ => rfl
    | ⟨1, _⟩ => exact (Nat.zero_add _).symm
    | ⟨2, _⟩ => exact (Nat.zero_add _).symm

theorem byte0 (G : Fin 896) (N : Fin 18944) : k0_pay10 a1 (ix2 G N) = (a1 (ix3 (0 : Fin 3) G N)).setWidth 32 := plane_apply 0 _ (k0_pay9 a1) G N
theorem byte1 (G : Fin 896) (N : Fin 18944) : k0_pay11 a1 (ix2 G N) = (a1 (ix3 (1 : Fin 3) G N)).setWidth 32 := plane_apply 1 _ (k0_pay9 a1) G N
theorem byte2 (G : Fin 896) (N : Fin 18944) : k0_pay12 a1 (ix2 G N) = (a1 (ix3 (2 : Fin 3) G N)).setWidth 32 := plane_apply 2 _ (k0_pay9 a1) G N

theorem field0 (G : Fin 896) (N : Fin 18944) : k0_pay13 a1 (ix2 G N) = (wcode a1 0 G N).setWidth 32 := by
  show IntOp.andi (k0_pay10 a1 (ix2 G N)) 63#32 = _
  rw [byte0]; exact fieldC0 _ _ _
theorem field1 (G : Fin 896) (N : Fin 18944) : k0_pay16 (k0_pay14 a1) (k0_pay15 a1) 2#32 (ix2 G N) = (wcode a1 1 G N).setWidth 32 := by
  show IntOp.ori (IntOp.shrsi .vector (k0_pay10 a1 (ix2 G N)) 6#32) (IntOp.shli .vector (IntOp.andi (k0_pay11 a1 (ix2 G N)) 15#32) 2#32) = _
  rw [byte0, byte1]; exact fieldC1 _ _ _
theorem field2 (G : Fin 896) (N : Fin 18944) : k0_pay17 (k0_pay11 a1) (k0_pay12 a1) (ix2 G N) = (wcode a1 2 G N).setWidth 32 := by
  show IntOp.ori (IntOp.shrsi .vector (k0_pay11 a1 (ix2 G N)) 4#32) (IntOp.shli .vector (IntOp.andi (k0_pay12 a1 (ix2 G N)) 3#32) 4#32) = _
  rw [byte1, byte2]; exact fieldC2 _ _ _
theorem field3 (G : Fin 896) (N : Fin 18944) : k0_pay18 (k0_pay12 a1) (ix2 G N) = (wcode a1 3 G N).setWidth 32 := by
  show IntOp.shrsi .vector (k0_pay12 a1 (ix2 G N)) 2#32 = _
  rw [byte2]; exact fieldC3 _ _ _

/-- A field decoded. -/
theorem decode_apply (c : IVec S896x18944 32) (i : S896x18944.Idx) (c6 : BitVec 6) (h : c i = c6.setWidth 32) :
    ((k0_pay28 c : FVec Ideal S896x18944 .bf16) i : EReal) = (((eighths c6 : ℝ) / 8 : ℝ) : EReal) := by
  have e : ((k0_pay28 c : FVec Ideal S896x18944 .bf16) i : EReal) = valC (c i) := rfl
  rw [e, h]; exact valC_eq c6

/-- The scales, each over 8 packed rows. -/
theorem scale_apply (a2 : Vec Ideal S112x18944 .i8) (G : Fin 896) (N : Fin 18944) :
    ((k0_pay19 a2 : FVec Ideal S896x18944 .bf16) (ix2 G N) : EReal) = p2 (((a2 (ix2 (sblk G) N) : BitVec 8).toNat : ℤ) - 127) := by
  unfold k0_pay19
  refine (shapeCast_apply (s := S112x8x18944) (t := S896x18944) _ shapeCasts_S112x8x18944_S896x18944 (ix2 G N)
    (ix3 (sblk G) (⟨G.val % 8, by omega⟩ : Fin 8) N) ?_).trans ?_
  · rw [Shape.rowMajor_val_three, Shape.rowMajor_val_two]
    show (G.val / 8 * 8 + G.val % 8) * 18944 + N.val = G.val * 18944 + N.val
    omega
  refine (broadcastTo_apply (s := S112x1x18944) (t := S112x8x18944) _ broadcasts_S112x1x18944_S112x8x18944 _ (ix3 (sblk G) (0 : Fin 1) N) fun a => ?_).trans ?_
  · match a with
    | ⟨0, _⟩ => rfl
    | ⟨1, _⟩ => rfl
    | ⟨2, _⟩ => rfl
  refine (shapeCast_apply (s := S112x18944) (t := S112x1x18944) _ shapeCasts_S112x18944_S112x1x18944 (ix3 (sblk G) (0 : Fin 1) N) (ix2 (sblk G) N) ?_).trans ?_
  · rw [Shape.rowMajor_val_three, Shape.rowMajor_val_two]
    show (sblk G).val * 18944 + N.val = ((sblk G).val * 1 + 0) * 18944 + N.val
    omega
  show Ideal.exp2 ((((((a2 (ix2 (sblk G) N) : BitVec 8).setWidth 32 - 127#32).toInt : ℤ) : ℝ) : EReal)) = _
  have hu : BitVec.ofNat 8 (a2 (ix2 (sblk G) N) : BitVec 8).toNat = a2 (ix2 (sblk G) N) := (BitVec.ofNat_toNat _ _).trans (BitVec.setWidth_eq _)
  have := byteScale (a2 (ix2 (sblk G) N) : BitVec 8).toNat (by have := (a2 (ix2 (sblk G) N) : BitVec 8).isLt; omega)
  rw [hu] at this
  exact this

/-! ## The product -/

theorem slicesX (j : Fin 4) : S256x896x4.Slices ![0, 0, j.val] S256x896x1 := by revert j; decide

/-- Columns `4 G + j` of dequantised `x`. -/
def xcols (j : Fin 4) (v : FVec Ideal S256x896x4 .bf16) : FVec Ideal S256x896 .bf16 :=
  shapeCast S256x896 (extractStridedSlice S256x896x1 ![0, 0, j.val] v (slicesX j)) shapeCasts_S256x896x1_S256x896
/-- The product over the rows of field `j`. -/
def term (j : Fin 4) (v : FVec Ideal S256x896x4 .bf16) (w s : FVec Ideal S896x18944 .bf16) : FVec Ideal S256x18944 .f32 :=
  matmul dot_S256x896_S896x18944_S256x18944_1_0_0_1_n_n none (xcols j v) (mulf w s) (constant S256x18944 .f32 0x00000000#32)

/-- Every fourth column of the operand. -/
theorem xcols_apply (j : Fin 4) (v : FVec Ideal S256x896x4 .bf16) (r : Fin 256) (G : Fin 896) : xcols j v (ix2 r G) = v (ix3 r G j) := by
  unfold xcols
  refine (shapeCast_apply (s := S256x896x1) (t := S256x896) _ shapeCasts_S256x896x1_S256x896 (ix2 r G) (ix3 r G (0 : Fin 1)) ?_).trans ?_
  · rw [Shape.rowMajor_val_three, Shape.rowMajor_val_two]
    show (r.val * 896 + G.val) * 1 + 0 = r.val * 896 + G.val
    omega
  · refine extractStridedSlice_apply (s := S256x896x4) (t := S256x896x1) _ v (slicesX j) (ix3 r G (0 : Fin 1)) (ix3 r G j) fun a => ?_
    match a with
    | ⟨0, _⟩ => exact (Nat.zero_add _).symm
    | ⟨1, _⟩ => exact (Nat.zero_add _).symm
    | ⟨2, _⟩ => rfl

/-- One of the four products at an element. -/
theorem term_apply (j : Fin 4) (v : FVec Ideal S256x896x4 .bf16) (w s : FVec Ideal S896x18944 .bf16) (r : Fin 256) (N : Fin 18944) :
    (term j v w s (ix2 r N) : EReal) = ∑ G : Fin 896, (v (ix3 r G j) : EReal) * ((w (ix2 G N) : EReal) * (s (ix2 G N) : EReal)) := by
  unfold term
  refine (Ideal.matmul_plain_apply (M := 256) (K := 896) (N := 18944) (φ₁ := .bf16) (φ₂ := .bf16) none _ _ _ r N).trans ?_
  refine (congrArg (· + _) (show Ideal.ofBits .f32 0x00000000#32 = 0 from Ideal.ofBits_zero_f32)).trans ((zero_add _).trans ?_)
  exact Finset.sum_congr rfl fun G _ => congrArg (fun u : EReal => u * ((w (ix2 G N) : EReal) * (s (ix2 G N) : EReal))) (xcols_apply j v r G)

theorem pay27_eq (v : FVec Ideal S256x896x4 .bf16) (s : FVec Ideal S896x18944 .bf16) (c : IVec S896x18944 32) :
    k0_pay27 v s (k0_pay20 c) (k0_pay23 c) (k0_pay24 c) (k0_pay25 c) (k0_pay26 c) (Scalar.ofBits .f32 0x3F800000#32) = term 0 v (k0_pay28 c) s := rfl
theorem pay29_eq (v : FVec Ideal S256x896x4 .bf16) (c : IVec S896x18944 32) (s : FVec Ideal S896x18944 .bf16) (t : FVec Ideal S256x18944 .f32) (w : FVec Ideal S896x18944 .bf16) :
    k0_pay29 v c s t w = addf (addf t (term 1 v w s)) (term 2 v (k0_pay28 c) s) := rfl
theorem pay1_eq (v : FVec Ideal S256x896x4 .bf16) (c : IVec S896x18944 32) (s : FVec Ideal S896x18944 .bf16) (t : FVec Ideal S256x18944 .f32) :
    k0_pay1 v c s t (k0_pay30 c) k0_pay31 = truncf .bf16 (addf t (term 3 v (k0_pay28 c) s)) bitsLt_bf16_f32 := rfl

/-- The product, from its dequantised operand and its packed weights. -/
theorem y_of (v : FVec Ideal S256x896x4 .bf16) (a2 : Vec Ideal S112x18944 .i8) (D : Fin 256 → Fin 3584 → EReal)
    (hv : ∀ r G j, (v (ix3 r G j) : EReal) = D r (urow G j)) (r : Fin 256) (N : Fin 18944) :
    (k0_pay1 v (k0_pay18 (k0_pay12 a1)) (k0_pay19 a2)
      (k0_pay29 v (k0_pay17 (k0_pay11 a1) (k0_pay12 a1)) (k0_pay19 a2)
        (k0_pay27 v (k0_pay19 a2) (k0_pay20 (k0_pay13 a1)) (k0_pay23 (k0_pay13 a1)) (k0_pay24 (k0_pay13 a1)) (k0_pay25 (k0_pay13 a1)) (k0_pay26 (k0_pay13 a1)) (Scalar.ofBits .f32 0x3F800000#32))
        (k0_pay28 (k0_pay16 (k0_pay14 a1) (k0_pay15 a1) 2#32)))
      (k0_pay30 (k0_pay18 (k0_pay12 a1))) k0_pay31 (ix2 r N) : EReal)
      = yX (D r) (fun j G => wcode a1 j G N) (fun s => a2 (ix2 s N)) := by
  rw [pay27_eq, pay29_eq, pay1_eq]
  have ht : ∀ (j : Fin 4) (c : IVec S896x18944 32), (∀ G, c (ix2 G N) = (wcode a1 j G N).setWidth 32) →
      (term j v (k0_pay28 c) (k0_pay19 a2) (ix2 r N) : EReal)
        = ∑ G : Fin 896, D r (urow G j) * ((((eighths (wcode a1 j G N) : ℝ) / 8 : ℝ) : EReal) * p2 (((a2 (ix2 (sblk G) N) : BitVec 8).toNat : ℤ) - 127)) := fun j c hc => by
    rw [term_apply]
    refine Finset.sum_congr rfl fun G _ => ?_
    rw [hv, decode_apply c _ _ (hc G), scale_apply]
  show ((term 0 v _ _ (ix2 r N) : EReal) + term 1 v _ _ (ix2 r N) + term 2 v _ _ (ix2 r N) + term 3 v _ _ (ix2 r N)) = _
  rw [ht 0 _ (fun G => field0 a1 G N), ht 1 _ (fun G => field1 a1 G N), ht 2 _ (fun G => field2 a1 G N), ht 3 _ (fun G => field3 a1 G N)]
  unfold yX
  rw [Fin.sum_univ_four]

end Cert.ReferenceIdeal.Read

end
-- ==== Proof.Pre.lean ====
/- What the precondition says of the arguments, at the ideal values. -/
module

public import proofs.«01_k».proof.Proof.Gen.Pre_normal_scales
public import proofs.«01_k».proof.Proof.Ref.XValue
public import Idealize.ShloMosaic.Lib.KernelVsHost

@[expose] public section

set_option maxRecDepth 16384

noncomputable section

namespace Cert.Pre_normal_scales.Read

open Cert.Pre_normal_scales Idealize.ShloMosaic
open Idealize.ShloMosaic.ValueIdx (ix2 ix3 eq_ix2)
open Cert.Mx

attribute [local instance] Cert.Pre_normal_scales.Gen.facts

variable (a0 : FVec Ideal S1x256x3584 .bf16) (a1 : IVec S3x896x18944 8) (a2 : IVec S112x18944 8)

/-- The host's maximum of the magnitudes of each block. -/
def hostMax : FVec Ideal S256x112 .f32 :=
  Host.reduce (FloatOps.maximumf (F := Ideal) (φ := .f32))
    (Host.absf (φ := .f32) (Cert.ReferenceIdeal.Gen.k0_pay2 (F := Ideal) a0)) (constant (F := Ideal) S_ .f32 0xFF800000#32)
    Gen.reducesTo_S256x112x32_S256x112_d2 Gen.h_S_

/-- The first condition, of any array of maxima. -/
def cond (v : FVec Ideal S256x112 .f32) : IVec S256x112 1 :=
  andi (ori (cmpf .oeq v (broadcastInDim S256x112 ![] Facts.bcast_S_S256x112 (constant (F := Ideal) S_ .f32 0x00000000#32)))
      (cmpf .oge v (broadcastInDim S256x112 ![] Facts.bcast_S_S256x112 (constant (F := Ideal) S_ .f32 0x01800000#32))))
    (cmpf .olt v (broadcastInDim S256x112 ![] Facts.bcast_S_S256x112 (constant (F := Ideal) S_ .f32 0x7F800000#32)))

/-- It is that condition of the maxima of x. -/
theorem fst_eq : (fn (F := Ideal) a0 a1 a2).1 = cond (hostMax a0) := rfl

/-- The first condition at a block, read as comparisons of its maximum. -/
theorem cond_apply (v : FVec Ideal S256x112 .f32) (i : S256x112.Idx) : cond v i
    = IntOp.andi (IntOp.ori
        (Ideal.cmp .oeq (v i) (Ideal.ofBits .f32 0x00000000#32))
        (Ideal.cmp .oge (v i) (Ideal.ofBits .f32 0x01800000#32)))
        (Ideal.cmp .olt (v i) (Ideal.ofBits .f32 0x7F800000#32)) := rfl

/-- The second condition at a scale byte. -/
theorem snd_apply (i : S112x18944.Idx) : (fn (F := Ideal) a0 a1 a2).2 i
    = IntOp.andi (IntOp.cmpi .sge ((a2 i).setWidth 32) 1#32) (IntOp.cmpi .sle ((a2 i).setWidth 32) 254#32) := rfl

/-- The host's maximum is the one the readings use. -/
theorem hostMax_eq : hostMax a0 = Cert.ReferenceIdeal.Read.amaxV a0 :=
  hostReduce_maximumf_eq_multiReduction (F := Ideal) _ _ _ _ Cert.ReferenceIdeal.Gen.reduces_S256x112x32_S256x112 (.inl rfl) rfl

/-- The smallest normal maximum. -/
theorem bits_min : Ideal.ofBits .f32 0x01800000#32 = p2 (-124) := by
  unfold p2
  simp [Ideal.ofBits, Ideal.ieee]; norm_num [← EReal.coe_mul]
/-- The word of infinity. -/
theorem bits_inf : Ideal.ofBits .f32 0x7F800000#32 = ⊤ := by simp [Ideal.ofBits, Ideal.ieee]

/-- Every block's largest magnitude is 0 or at least 2⁻¹²⁴, and finite. -/
theorem normal (h : (fn (F := Ideal) a0 a1 a2).1 = fun _ => 1#1) (r : Fin 256) (b : Fin 112) :
    Normal (amax (Cert.ReferenceIdeal.Read.rows a0) r b) := by
  have e := congrFun h (ix2 r b)
  rw [fst_eq, cond_apply, hostMax_eq, Cert.ReferenceIdeal.Read.amaxV_apply, bits_min, bits_inf, Ideal.ofBits_zero_f32] at e
  generalize amax (Cert.ReferenceIdeal.Read.rows a0) r b = a at e ⊢
  have e' : (BitVec.ofBool (decide (a = 0)) ||| BitVec.ofBool (decide (p2 (-124) ≤ a))) &&& BitVec.ofBool (decide (a < ⊤)) = 1#1 := e
  unfold Normal
  by_cases h0 : a = 0
  · refine ⟨.inl h0, ?_⟩
    rw [h0]; exact EReal.zero_lt_top
  · by_cases h1 : p2 (-124) ≤ a
    · refine ⟨.inr h1, ?_⟩
      by_contra h2
      rw [decide_eq_false h0, decide_eq_true h1, decide_eq_false h2] at e'
      exact absurd e' (by decide)
    · exfalso
      rw [decide_eq_false h0, decide_eq_false h1] at e'
      revert e'
      cases decide (a < ⊤) <;> decide

/-- Every scale byte of the weights is between 1 and 254. -/
theorem bytes (h : (fn (F := Ideal) a0 a1 a2).2 = fun _ => 1#1) (s : Fin 112) (N : Fin 18944) :
    1 ≤ (a2 (ix2 s N)).toNat ∧ (a2 (ix2 s N)).toNat ≤ 254 := by
  have e := congrFun h (ix2 s N)
  rw [snd_apply] at e
  generalize a2 (ix2 s N) = u at e ⊢
  revert u
  decide +kernel

end Cert.Pre_normal_scales.Read

end
-- ==== Proof.Equal.lean ====
/- The kernel's three result arrays are the reference's, under the precondition, at the ideal values. -/
module

public import proofs.«01_k».proof.Proof.Gen.ReferenceIdeal.Value
public import proofs.«01_k».proof.Proof.Body.Arrays
public import proofs.«01_k».proof.Proof.Body.XValue
public import proofs.«01_k».proof.Proof.Body.YValue
public import proofs.«01_k».proof.Proof.Ref.YValue
public import proofs.«01_k».proof.Proof.Pre

@[expose] public section

set_option maxRecDepth 16384

noncomputable section

namespace Cert.Equal

open Idealize.ShloMosaic hiding ix2 ix3 eq_ix2
open Idealize.SL.Sem
open Idealize.ShloMosaic.TcCoe
open Idealize.ShloMosaic.ValueIdx (ix2 ix3 eq_ix2)
open Cert.Mx

/-! ## The reference's arrays -/

section Reference

open Cert.ReferenceIdeal Cert.ReferenceIdeal.Gen Cert.ReferenceIdeal.Read

variable (a0 : Vec Ideal S1x256x3584 .bf16) (a1 : Vec Ideal S3x896x18944 .i8) (a2 : Vec Ideal S112x18944 .i8)

/-- A load of the whole of x reads x. -/
theorem load0 : View.ld (Val := Elt Ideal) a0 r0_0 = a0 := View.ld_unit_zero Value.hz0 _ _
/-- A load of all the packed weights reads them. -/
theorem load1 : View.ld (Val := Elt Ideal) a1 r0_3 = a1 := View.ld_unit_zero Value.hz1 _ _
/-- A load of all the scale bytes reads them. -/
theorem load2 : View.ld (Val := Elt Ideal) a2 r0_4 = a2 := View.ld_unit_zero Value.hz2 _ _

variable (hN : ∀ r b, Normal (amax (Read.rows a0) r b))
include hN

/-- The reference's codes. -/
theorem refCodes (r : Fin 256) (c : Fin 3584) : Value.G4 (F := Ideal) a0 a1 a2 (ix2 r c) = codeX (Read.rows a0) r c := by
  rw [← codes_apply a0 hN r c]
  unfold Value.G4 k0_pay33 k0_pay34
  rw [load0]
/-- The reference's scale bytes. -/
theorem refScales (r : Fin 256) (b : Fin 112) : Value.G5 (F := Ideal) a0 a1 a2 (ix2 r b) = BitVec.ofNat 8 (byteN (amax (Read.rows a0) r b)) := by
  rw [← scales_apply a0 hN r b]
  unfold Value.G5 k0_pay32
  rw [load0]
/-- The reference's product. -/
theorem refY (r : Fin 256) (N : Fin 18944) : Value.G3 (F := Ideal) a0 a1 a2 (ix2 r N)
    = yX (deqX (Read.rows a0) r) (fun j G => Read.wcode a1 j G N) (fun s => a2 (ix2 s N)) := by
  rw [← y_of a1 _ a2 (deqX (Read.rows a0)) (deq_apply a0 hN) r N]
  unfold Value.G3 k0_pay38 k0_pay39 k0_pay37 k0_pay36 k0_pay35 k0_pay34 k0_pay33 k0_pay32
  rw [load0, load1, load2]

end Reference

/-! ## The kernel's arrays -/

section Kernel

open Cert.KernelIdeal Cert.KernelIdeal.Gen Cert.KernelIdeal.Body

variable (m : (ℓ : Loc nD τ sig) → Buf (Elt Ideal) ℓ) (c : Dev nD)

/-- The first argument, as device `c` holds it. -/
abbrev arg0 : Vec Ideal S1x256x3584 .bf16 := m ((c : Thread nD τ).loc main_arg0)
/-- The second argument. -/
abbrev arg1 : Vec Ideal S3x896x18944 .i8 := m ((c : Thread nD τ).loc main_arg1)
/-- The third argument. -/
abbrev arg2 : Vec Ideal S112x18944 .i8 := m ((c : Thread nD τ).loc main_arg2)

/-- The kernel's block of x has the rows of x. -/
theorem rows_eq (t) : Body.rows (iblk m c 0 t) = Cert.ReferenceIdeal.Read.rows (arg0 m c) := by
  funext r k
  exact iblk0_apply m c t r k

variable (hN : ∀ r b, Normal (amax (Cert.ReferenceIdeal.Read.rows (arg0 m c)) r b))
include hN

/-- So its maxima are normal too. -/
theorem kerN (t) : ∀ r b, Normal (amax (Body.rows (iblk m c 0 t)) r b) := by
  rw [rows_eq]; exact hN

/-- The codes agree. -/
theorem codes_eq : codesC m c = Cert.ReferenceIdeal.Value.G4 (F := Ideal) (arg0 m c) (arg1 m c) (arg2 m c) := by
  funext i
  rw [eq_ix2 i]
  refine Eq.trans (codesV_apply _ (kerN m c hN pt0) (i 0) (i 1)) ?_
  rw [rows_eq]
  exact (refCodes _ _ _ hN (i 0) (i 1)).symm

/-- The scale bytes agree. -/
theorem scales_eq : scalesC m c = Cert.ReferenceIdeal.Value.G5 (F := Ideal) (arg0 m c) (arg1 m c) (arg2 m c) := by
  funext i
  rw [eq_ix2 i]
  refine Eq.trans (scalesV_apply _ (kerN m c hN pt0) (i 0) (i 1)) ?_
  rw [rows_eq]
  exact (refScales _ _ _ hN (i 0) (i 1)).symm

variable (hu : ∀ s N, 1 ≤ (arg2 m c (ix2 s N)).toNat ∧ (arg2 m c (ix2 s N)).toNat ≤ 254)
include hu

/-- The products agree. -/
theorem y_eq : yArr m c = Cert.ReferenceIdeal.Value.G3 (F := Ideal) (arg0 m c) (arg1 m c) (arg2 m c) := by
  funext i
  obtain ⟨r, N, rfl⟩ : ∃ (r : Fin 256) (N : Fin 18944), i = ix2 r N := ⟨i 0, i 1, eq_ix2 i⟩
  have h2 : ∀ s, iblk m c 2 (tileOf N) (ix2 s (laneOf N)) = arg2 m c (ix2 s N) := fun s => by
    rw [iblk2_apply, ncol_tileOf]
  have h1 : ∀ b G, iblk m c 1 (tileOf N) (ix3 b G (laneOf N)) = arg1 m c (ix3 b G N) := fun b G => by
    rw [iblk1_apply, ncol_tileOf]
  refine Eq.trans (yV_apply (xpC m c) (iblk m c 1 (tileOf N)) (iblk m c 2 (tileOf N)) (deqX (Body.rows (iblk m c 0 pt0)))
    (xpV_apply _ (kerN m c hN pt0)) r (laneOf N) (fun s => ?_)) ?_
  · rw [h2]; exact hu s N
  · refine Eq.trans ?_ (refY _ _ _ hN r N).symm
    rw [rows_eq]
    congr 1
    · funext j G
      unfold Body.wcode Cert.ReferenceIdeal.Read.wcode
      rw [h1, h1, h1]
    · funext s
      exact h2 s

end Kernel

end Cert.Equal

end
-- ==== Proof.lean ====
module

public import proofs.«01_k».proof.Defs
public import proofs.«01_k».proof.Proof.KernelFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- From memories that agree on the arguments, the kernel and the reference end with equal results. -/
theorem algebraic : Cert.algebraic_KernelIdeal_ReferenceIdeal_pre_normal_scales := by
  intro m g m' g' hp hag
  have hN := fun c => Cert.Pre_normal_scales.Read.normal _ _ _ (hp c).1
  have hu := fun c => Cert.Pre_normal_scales.Read.bytes _ _ _ (hp c).2
  refine ⟨Cert.KernelIdeal.Body.yArr m, Cert.KernelIdeal.Body.codesC m, Cert.KernelIdeal.Body.scalesC m, Cert.KernelIdeal.Body.run m g,
    (θ_run _ _ _).mono (fun r h c => ?_) (Cert.ReferenceIdeal.Value.run m' g')⟩
  obtain ⟨h3, h4, h5, hargs⟩ := h c
  obtain ⟨e0, e1, e2⟩ := hag c
  rw [e0, e1, e2] at h3 h4 h5
  exact ⟨h3.trans (Cert.Equal.y_eq m c (hN c) (hu c)).symm, h4.trans (Cert.Equal.codes_eq m c (hN c)).symm,
    h5.trans (Cert.Equal.scales_eq m c (hN c)).symm, hargs⟩

/-- Everything the certificate claims. -/
theorem claim : Cert.Claim :=
  ⟨Cert.Kernel.Gen.facts, Cert.KernelIdeal.Gen.facts, Cert.ReferenceIdeal.Gen.facts, Cert.Pre_normal_scales.Gen.facts,
    fun m ρ _ => Cert.KernelFrame.frame m ρ,
    fun m ρ _ => Cert.KernelIdeal.Body.frame m ρ, fun m ρ _ => Cert.KernelIdeal.Body.frame m ρ,
    fun m ρ _ => Cert.ReferenceIdeal.Gen.frame m ρ, fun m ρ _ => Cert.ReferenceIdeal.Gen.frame m ρ,
    trivial, algebraic⟩

end Cert.Proof

end
